-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2x128x1024 : Shape := ⟨3, ![2, 128, 1024]⟩
abbrev S2x256x1024 : Shape := ⟨3, ![2, 256, 1024]⟩
abbrev S2x32x1024 : Shape := ⟨3, ![2, 32, 1024]⟩
abbrev S2x6 : Shape := ⟨2, ![2, 6]⟩
abbrev S_ : Shape := ⟨0, ![]⟩
abbrev S1x1 : Shape := ⟨2, ![1, 1]⟩
abbrev S1x128x1024 : Shape := ⟨3, ![1, 128, 1024]⟩
abbrev S128x1024 : Shape := ⟨2, ![128, 1024]⟩
abbrev S1x32x1024 : Shape := ⟨3, ![1, 32, 1024]⟩
abbrev S32x1024 : Shape := ⟨2, ![32, 1024]⟩

abbrev nBuf : Space → Nat
  | .hbm => 2
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S2x128x1024, .f32⟩
  | .local _ .vmem, ⟨3, _⟩ => ⟨S2x128x1024, .f32⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x256x1024, .f32⟩
  | .local _ .vmem, ⟨9, _⟩ => ⟨S2x32x1024, .f32⟩
  | .local _ .vmem, ⟨10, _⟩ => ⟨S2x32x1024, .f32⟩
  | .local _ .vmem, ⟨11, _⟩ => ⟨S2x32x1024, .f32⟩
  | .local _ .vmem, ⟨12, _⟩ => ⟨S2x32x1024, .f32⟩
  | .local _ .vmem, ⟨13, _⟩ => ⟨S2x32x1024, .f32⟩
  | .local _ .vmem, ⟨14, _⟩ => ⟨S2x32x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 1 98 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c3_i32 : BitVec 32 := 3#32
  let v6 : BitVec 32 := Scalar.addi v4 c3_i32
  let c4_i32_2 : BitVec 32 := 4#32
  let v7 : BitVec 32 := Scalar.remsi v6 c4_i32_2
  let v8 : BitVec 32 := Scalar.addi v5 v7
  let c1_i32_10 : BitVec 32 := 1#32
  let v18 : BitVec 32 := Scalar.muli v8 c1_i32_10
  let v19 : BitVec 32 := Scalar.addi c0_i32 v18
  v19.toNat
def k0_dev2 (d0 : Dev nD) : Nat :=
  let c0_i32_13 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_3 v3
  let c4_i32_0 : BitVec 32 := 4#32
  let v4 : BitVec 32 := Scalar.remsi v2 c4_i32_0
  let c1_i32_4 : BitVec 32 := 1#32
  let v10 : BitVec 32 := Scalar.addi v4 c1_i32_4
  let c4_i32_5 : BitVec 32 := 4#32
  let v11 : BitVec 32 := Scalar.remsi v10 c4_i32_5
  let v12 : BitVec 32 := Scalar.addi v9 v11
  let c1_i32_12 : BitVec 32 := 1#32
  let v20 : BitVec 32 := Scalar.muli v12 c1_i32_12
  let v21 : BitVec 32 := Scalar.addi c0_i32_13 v20
  v21.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_6 : BitVec 32 := 16#32
  let v14 : BitVec 32 := Scalar.remsi v13 c16_i32_6
  let c1_i32_15 : BitVec 32 := 1#32
  let v22 : BitVec 32 := Scalar.muli v14 c1_i32_15
  let v23 : BitVec 32 := Scalar.addi c0_i32_16 v22
  v23.toNat
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_18 : BitVec 32 := 1#32
  let v24 : BitVec 32 := Scalar.muli v16 c1_i32_18
  let v25 : BitVec 32 := Scalar.addi c0_i32_19 v24
  v25.toNat
def k0_off1 (d0 : Dev nD) (c_m2_i32 : BitVec 32) (c0_i32_22 : BitVec 32) (c0_i32_23 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let v26 : BitVec 32 := Scalar.addi v4 c_m2_i32
  let c8_i32 : BitVec 32 := 8#32
  let v27 : BitVec 32 := Scalar.addi v26 c8_i32
  let c4_i32_21 : BitVec 32 := 4#32
  let v28 : BitVec 32 := Scalar.remsi v27 c4_i32_21
  let c512_i32 : BitVec 32 := 512#32
  let v29 : BitVec 32 := Scalar.muli v28 c512_i32
  let v30 : BitVec 32 := Scalar.addi v29 c0_i32_22
  let v31 : BitVec 32 := Scalar.addi v30 c0_i32_23
  let c0_i32_48 : BitVec 32 := 0#32
  ![v31.toNat, 0]
def k0_off1_at (r : Fin 16) : BitVec 32 × BitVec 32 × BitVec 32 :=
  if r.val < 8 then
    if r.val < 4 then
      if r.val < 2 then
        if r.val < 1 then
          (4294967294#32, 0#32, 0#32)
        else
          (1#32, 0#32, 0#32)
      else
        if r.val < 3 then
          (2#32, 0#32, 128#32)
        else
          (4294967295#32, 0#32, 128#32)
    else
      if r.val < 6 then
        if r.val < 5 then
          (4294967294#32, 256#32, 0#32)
        else
          (1#32, 256#32, 0#32)
      else
        if r.val < 7 then
          (2#32, 256#32, 128#32)
        else
          (4294967295#32, 256#32, 128#32)
  else
    if r.val < 12 then
      if r.val < 10 then
        if r.val < 9 then
          (4294967295#32, 0#32, 0#32)
        else
          (1#32, 0#32, 128#32)
      else
        if r.val < 11 then
          (0#32, 0#32, 0#32)
        else
          (0#32, 0#32, 128#32)
    else
      if r.val < 14 then
        if r.val < 13 then
          (4294967295#32, 256#32, 0#32)
        else
          (1#32, 256#32, 128#32)
      else
        if r.val < 15 then
          (0#32, 256#32, 0#32)
        else
          (0#32, 256#32, 128#32)
def k0_dev5 (d0 : Dev nD) : Nat :=
  let c0_i32_45 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c3_i32 : BitVec 32 := 3#32
  let v6 : BitVec 32 := Scalar.addi v4 c3_i32
  let c4_i32_2 : BitVec 32 := 4#32
  let v7 : BitVec 32 := Scalar.remsi v6 c4_i32_2
  let v8 : BitVec 32 := Scalar.addi v5 v7
  let c1_i32_44 : BitVec 32 := 1#32
  let v50 : BitVec 32 := Scalar.muli v8 c1_i32_44
  let v51 : BitVec 32 := Scalar.addi c0_i32_45 v50
  v51.toNat
def k0_dev6 (d0 : Dev nD) : Nat :=
  let c0_i32_55 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_3 v3
  let c4_i32_0 : BitVec 32 := 4#32
  let v4 : BitVec 32 := Scalar.remsi v2 c4_i32_0
  let c1_i32_4 : BitVec 32 := 1#32
  let v10 : BitVec 32 := Scalar.addi v4 c1_i32_4
  let c4_i32_5 : BitVec 32 := 4#32
  let v11 : BitVec 32 := Scalar.remsi v10 c4_i32_5
  let v12 : BitVec 32 := Scalar.addi v9 v11
  let c1_i32_54 : BitVec 32 := 1#32
  let v59 : BitVec 32 := Scalar.muli v12 c1_i32_54
  let v60 : BitVec 32 := Scalar.addi c0_i32_55 v59
  v60.toNat
def k0_dev7 (d0 : Dev nD) : Nat :=
  let c0_i32_65 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_3 v3
  let c4_i32_0 : BitVec 32 := 4#32
  let v4 : BitVec 32 := Scalar.remsi v2 c4_i32_0
  let c1_i32_4 : BitVec 32 := 1#32
  let v10 : BitVec 32 := Scalar.addi v4 c1_i32_4
  let c4_i32_5 : BitVec 32 := 4#32
  let v11 : BitVec 32 := Scalar.remsi v10 c4_i32_5
  let v12 : BitVec 32 := Scalar.addi v9 v11
  let c1_i32_64 : BitVec 32 := 1#32
  let v68 : BitVec 32 := Scalar.muli v12 c1_i32_64
  let v69 : BitVec 32 := Scalar.addi c0_i32_65 v68
  v69.toNat
def k0_dev8 (d0 : Dev nD) : Nat :=
  let c0_i32_75 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c3_i32 : BitVec 32 := 3#32
  let v6 : BitVec 32 := Scalar.addi v4 c3_i32
  let c4_i32_2 : BitVec 32 := 4#32
  let v7 : BitVec 32 := Scalar.remsi v6 c4_i32_2
  let v8 : BitVec 32 := Scalar.addi v5 v7
  let c1_i32_74 : BitVec 32 := 1#32
  let v77 : BitVec 32 := Scalar.muli v8 c1_i32_74
  let v78 : BitVec 32 := Scalar.addi c0_i32_75 v77
  v78.toNat
def k0_dev9 (d0 : Dev nD) : Nat :=
  let c0_i32_108 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c3_i32 : BitVec 32 := 3#32
  let v6 : BitVec 32 := Scalar.addi v4 c3_i32
  let c4_i32_2 : BitVec 32 := 4#32
  let v7 : BitVec 32 := Scalar.remsi v6 c4_i32_2
  let v8 : BitVec 32 := Scalar.addi v5 v7
  let c1_i32_107 : BitVec 32 := 1#32
  let v110 : BitVec 32 := Scalar.muli v8 c1_i32_107
  let v111 : BitVec 32 := Scalar.addi c0_i32_108 v110
  v111.toNat
def k0_dev10 (d0 : Dev nD) : Nat :=
  let c0_i32_118 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_3 v3
  let c4_i32_0 : BitVec 32 := 4#32
  let v4 : BitVec 32 := Scalar.remsi v2 c4_i32_0
  let c1_i32_4 : BitVec 32 := 1#32
  let v10 : BitVec 32 := Scalar.addi v4 c1_i32_4
  let c4_i32_5 : BitVec 32 := 4#32
  let v11 : BitVec 32 := Scalar.remsi v10 c4_i32_5
  let v12 : BitVec 32 := Scalar.addi v9 v11
  let c1_i32_117 : BitVec 32 := 1#32
  let v119 : BitVec 32 := Scalar.muli v12 c1_i32_117
  let v120 : BitVec 32 := Scalar.addi c0_i32_118 v119
  v120.toNat
def k0_dev11 (d0 : Dev nD) : Nat :=
  let c0_i32_128 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_3 v3
  let c4_i32_0 : BitVec 32 := 4#32
  let v4 : BitVec 32 := Scalar.remsi v2 c4_i32_0
  let c1_i32_4 : BitVec 32 := 1#32
  let v10 : BitVec 32 := Scalar.addi v4 c1_i32_4
  let c4_i32_5 : BitVec 32 := 4#32
  let v11 : BitVec 32 := Scalar.remsi v10 c4_i32_5
  let v12 : BitVec 32 := Scalar.addi v9 v11
  let c1_i32_127 : BitVec 32 := 1#32
  let v128 : BitVec 32 := Scalar.muli v12 c1_i32_127
  let v129 : BitVec 32 := Scalar.addi c0_i32_128 v128
  v129.toNat
def k0_dev12 (d0 : Dev nD) : Nat :=
  let c0_i32_138 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c3_i32 : BitVec 32 := 3#32
  let v6 : BitVec 32 := Scalar.addi v4 c3_i32
  let c4_i32_2 : BitVec 32 := 4#32
  let v7 : BitVec 32 := Scalar.remsi v6 c4_i32_2
  let v8 : BitVec 32 := Scalar.addi v5 v7
  let c1_i32_137 : BitVec 32 := 1#32
  let v137 : BitVec 32 := Scalar.muli v8 c1_i32_137
  let v138 : BitVec 32 := Scalar.addi c0_i32_138 v137
  v138.toNat
def k0_dev13 (d0 : Dev nD) : Nat :=
  let c0_i32_197 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c3_i32 : BitVec 32 := 3#32
  let v6 : BitVec 32 := Scalar.addi v4 c3_i32
  let c4_i32_2 : BitVec 32 := 4#32
  let v7 : BitVec 32 := Scalar.remsi v6 c4_i32_2
  let v8 : BitVec 32 := Scalar.addi v5 v7
  let c1_i32_196 : BitVec 32 := 1#32
  let v192 : BitVec 32 := Scalar.muli v8 c1_i32_196
  let v193 : BitVec 32 := Scalar.addi c0_i32_197 v192
  v193.toNat
def k0_dev14 (d0 : Dev nD) : Nat :=
  let c0_i32_233 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_3 v3
  let c4_i32_0 : BitVec 32 := 4#32
  let v4 : BitVec 32 := Scalar.remsi v2 c4_i32_0
  let c1_i32_4 : BitVec 32 := 1#32
  let v10 : BitVec 32 := Scalar.addi v4 c1_i32_4
  let c4_i32_5 : BitVec 32 := 4#32
  let v11 : BitVec 32 := Scalar.remsi v10 c4_i32_5
  let v12 : BitVec 32 := Scalar.addi v9 v11
  let c1_i32_232 : BitVec 32 := 1#32
  let v224 : BitVec 32 := Scalar.muli v12 c1_i32_232
  let v225 : BitVec 32 := Scalar.addi c0_i32_233 v224
  v225.toNat
def k0_off2 (d0 : Dev nD) (c_m2_i32_317 : BitVec 32) (c0_i32_320 : BitVec 32) : Fin 3 → Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v300 : BitVec 32 := Scalar.addi v3 c_m2_i32_317
  let c8_i32_318 : BitVec 32 := 8#32
  let v301 : BitVec 32 := Scalar.addi v300 c8_i32_318
  let c4_i32_319 : BitVec 32 := 4#32
  let v302 : BitVec 32 := Scalar.remsi v301 c4_i32_319
  let c64_i32 : BitVec 32 := 64#32
  let v303 : BitVec 32 := Scalar.muli v302 c64_i32
  let v304 : BitVec 32 := Scalar.addi v303 c0_i32_320
  let c0_i32_345 : BitVec 32 := 0#32
  ![0, v304.toNat, 0]
def k0_off2_at (r : Fin 8) : BitVec 32 × BitVec 32 :=
  if r.val < 4 then
    if r.val < 2 then
      if r.val < 1 then
        (4294967294#32, 0#32)
      else
        (1#32, 0#32)
    else
      if r.val < 3 then
        (2#32, 32#32)
      else
        (4294967295#32, 32#32)
  else
    if r.val < 6 then
      if r.val < 5 then
        (4294967295#32, 0#32)
      else
        (1#32, 32#32)
    else
      if r.val < 7 then
        (0#32, 0#32)
      else
        (0#32, 32#32)
def k0_dev15 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_6 : BitVec 32 := 16#32
  let v14 : BitVec 32 := Scalar.remsi v13 c16_i32_6
  let c1_i32_341 : BitVec 32 := 1#32
  let v320 : BitVec 32 := Scalar.muli v14 c1_i32_341
  let v321 : BitVec 32 := Scalar.addi c0_i32_342 v320
  v321.toNat
def k0_dev16 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_352 : BitVec 32 := 1#32
  let v330 : BitVec 32 := Scalar.muli v16 c1_i32_352
  let v331 : BitVec 32 := Scalar.addi c0_i32_353 v330
  v331.toNat
def k0_dev17 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_363 : BitVec 32 := 1#32
  let v340 : BitVec 32 := Scalar.muli v16 c1_i32_363
  let v341 : BitVec 32 := Scalar.addi c0_i32_364 v340
  v341.toNat
def k0_dev18 (d0 : Dev nD) : Nat :=
  let c0_i32_375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_6 : BitVec 32 := 16#32
  let v14 : BitVec 32 := Scalar.remsi v13 c16_i32_6
  let c1_i32_374 : BitVec 32 := 1#32
  let v350 : BitVec 32 := Scalar.muli v14 c1_i32_374
  let v351 : BitVec 32 := Scalar.addi c0_i32_375 v350
  v351.toNat
def k0_dev19 (d0 : Dev nD) : Nat :=
  let c0_i32_412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_6 : BitVec 32 := 16#32
  let v14 : BitVec 32 := Scalar.remsi v13 c16_i32_6
  let c1_i32_411 : BitVec 32 := 1#32
  let v382 : BitVec 32 := Scalar.muli v14 c1_i32_411
  let v383 : BitVec 32 := Scalar.addi c0_i32_412 v382
  v383.toNat
def k0_dev20 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_449 : BitVec 32 := 1#32
  let v414 : BitVec 32 := Scalar.muli v16 c1_i32_449
  let v415 : BitVec 32 := Scalar.addi c0_i32_450 v414
  v415.toNat
def k0_off3 (d0 : Dev nD) (c0_i32_494 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c512_i32_493 : BitVec 32 := 512#32
  let v454 : BitVec 32 := Scalar.muli v4 c512_i32_493
  let v455 : BitVec 32 := Scalar.addi v454 c0_i32_494
  let c4_i32 : BitVec 32 := 4#32
  let v3 : BitVec 32 := Scalar.divsi v2 c4_i32
  let c64_i32_495 : BitVec 32 := 64#32
  let v456 : BitVec 32 := Scalar.muli v3 c64_i32_495
  let v457 : BitVec 32 := Scalar.addi v455 v456
  let v458 : Index := Scalar.indexCast v457
  let c0_496 : Index := 0#32
  ![v458.toNat, 0]
def k0_off4 (d0 : Dev nD) (c0_i32_536 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c512_i32_535 : BitVec 32 := 512#32
  let v490 : BitVec 32 := Scalar.muli v4 c512_i32_535
  let v491 : BitVec 32 := Scalar.addi v490 c0_i32_536
  let c4_i32 : BitVec 32 := 4#32
  let v3 : BitVec 32 := Scalar.divsi v2 c4_i32
  let c64_i32_537 : BitVec 32 := 64#32
  let v492 : BitVec 32 := Scalar.muli v3 c64_i32_537
  let v493 : BitVec 32 := Scalar.addi v491 v492
  let c32_i32_538 : BitVec 32 := 32#32
  let v494 : BitVec 32 := Scalar.addi v493 c32_i32_538
  let v495 : Index := Scalar.indexCast v494
  let c0_539 : Index := 0#32
  ![v495.toNat, 0]
def k0_off5 (d0 : Dev nD) (c0_i32_548 : BitVec 32) (c0_i32_549 : BitVec 32) (c0_i32_553 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.remsi v2 c4_i32_0
  let c512_i32_547 : BitVec 32 := 512#32
  let v505 : BitVec 32 := Scalar.muli v4 c512_i32_547
  let v506 : BitVec 32 := Scalar.addi v505 c0_i32_548
  let c4_i32 : BitVec 32 := 4#32
  let v3 : BitVec 32 := Scalar.divsi v2 c4_i32
  let v507 : BitVec 32 := Scalar.addi v3 c0_i32_549
  let c8_i32_550 : BitVec 32 := 8#32
  let v508 : BitVec 32 := Scalar.addi v507 c8_i32_550
  let c4_i32_551 : BitVec 32 := 4#32
  let v509 : BitVec 32 := Scalar.remsi v508 c4_i32_551
  let c64_i32_552 : BitVec 32 := 64#32
  let v510 : BitVec 32 := Scalar.muli v509 c64_i32_552
  let v511 : BitVec 32 := Scalar.addi v506 v510
  let v512 : BitVec 32 := Scalar.addi v511 c0_i32_553
  let c0_i32_630 : BitVec 32 := 0#32
  ![v512.toNat, 0]
def k0_off5_at (r : Fin 8) : BitVec 32 × BitVec 32 × BitVec 32 :=
  if r.val < 4 then
    if r.val < 2 then
      if r.val < 1 then
        (0#32, 0#32, 0#32)
      else
        (0#32, 0#32, 32#32)
    else
      if r.val < 3 then
        (0#32, 4294967295#32, 0#32)
      else
        (0#32, 1#32, 32#32)
  else
    if r.val < 6 then
      if r.val < 5 then
        (256#32, 0#32, 0#32)
      else
        (256#32, 0#32, 32#32)
    else
      if r.val < 7 then
        (256#32, 4294967295#32, 0#32)
      else
        (256#32, 1#32, 32#32)
def k0_dev21 (d0 : Dev nD) : Nat :=
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_628 : BitVec 32 := 1#32
  let v593 : BitVec 32 := Scalar.muli v16 c1_i32_628
  let v594 : BitVec 32 := Scalar.addi c0_i32_629 v593
  v594.toNat
def k0_dev22 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_6 : BitVec 32 := 16#32
  let v14 : BitVec 32 := Scalar.remsi v13 c16_i32_6
  let c1_i32_636 : BitVec 32 := 1#32
  let v601 : BitVec 32 := Scalar.muli v14 c1_i32_636
  let v602 : BitVec 32 := Scalar.addi c0_i32_637 v601
  v602.toNat
def k0_dev23 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_6 : BitVec 32 := 16#32
  let v14 : BitVec 32 := Scalar.remsi v13 c16_i32_6
  let c1_i32_644 : BitVec 32 := 1#32
  let v609 : BitVec 32 := Scalar.muli v14 c1_i32_644
  let v610 : BitVec 32 := Scalar.addi c0_i32_645 v609
  v610.toNat
def k0_dev24 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_652 : BitVec 32 := 1#32
  let v617 : BitVec 32 := Scalar.muli v16 c1_i32_652
  let v618 : BitVec 32 := Scalar.addi c0_i32_653 v617
  v618.toNat
def k0_dev25 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_668 : BitVec 32 := 1#32
  let v631 : BitVec 32 := Scalar.muli v16 c1_i32_668
  let v632 : BitVec 32 := Scalar.addi c0_i32_669 v631
  v632.toNat
def k0_dev26 (d0 : Dev nD) : Nat :=
  let c0_i32_685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_6 : BitVec 32 := 16#32
  let v14 : BitVec 32 := Scalar.remsi v13 c16_i32_6
  let c1_i32_684 : BitVec 32 := 1#32
  let v645 : BitVec 32 := Scalar.muli v14 c1_i32_684
  let v646 : BitVec 32 := Scalar.addi c0_i32_685 v645
  v646.toNat
def k0_dev27 (d0 : Dev nD) : Nat :=
  let c0_i32_773 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_3 v3
  let c4_i32_0 : BitVec 32 := 4#32
  let v4 : BitVec 32 := Scalar.remsi v2 c4_i32_0
  let c1_i32_4 : BitVec 32 := 1#32
  let v10 : BitVec 32 := Scalar.addi v4 c1_i32_4
  let c4_i32_5 : BitVec 32 := 4#32
  let v11 : BitVec 32 := Scalar.remsi v10 c4_i32_5
  let v12 : BitVec 32 := Scalar.addi v9 v11
  let c1_i32_772 : BitVec 32 := 1#32
  let v725 : BitVec 32 := Scalar.muli v12 c1_i32_772
  let v726 : BitVec 32 := Scalar.addi c0_i32_773 v725
  v726.toNat
def k0_dev28 (d0 : Dev nD) : Nat :=
  let c0_i32_781 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c3_i32 : BitVec 32 := 3#32
  let v6 : BitVec 32 := Scalar.addi v4 c3_i32
  let c4_i32_2 : BitVec 32 := 4#32
  let v7 : BitVec 32 := Scalar.remsi v6 c4_i32_2
  let v8 : BitVec 32 := Scalar.addi v5 v7
  let c1_i32_780 : BitVec 32 := 1#32
  let v733 : BitVec 32 := Scalar.muli v8 c1_i32_780
  let v734 : BitVec 32 := Scalar.addi c0_i32_781 v733
  v734.toNat
def k0_dev29 (d0 : Dev nD) : Nat :=
  let c0_i32_789 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c3_i32 : BitVec 32 := 3#32
  let v6 : BitVec 32 := Scalar.addi v4 c3_i32
  let c4_i32_2 : BitVec 32 := 4#32
  let v7 : BitVec 32 := Scalar.remsi v6 c4_i32_2
  let v8 : BitVec 32 := Scalar.addi v5 v7
  let c1_i32_788 : BitVec 32 := 1#32
  let v741 : BitVec 32 := Scalar.muli v8 c1_i32_788
  let v742 : BitVec 32 := Scalar.addi c0_i32_789 v741
  v742.toNat
def k0_dev30 (d0 : Dev nD) : Nat :=
  let c0_i32_797 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_3 v3
  let c4_i32_0 : BitVec 32 := 4#32
  let v4 : BitVec 32 := Scalar.remsi v2 c4_i32_0
  let c1_i32_4 : BitVec 32 := 1#32
  let v10 : BitVec 32 := Scalar.addi v4 c1_i32_4
  let c4_i32_5 : BitVec 32 := 4#32
  let v11 : BitVec 32 := Scalar.remsi v10 c4_i32_5
  let v12 : BitVec 32 := Scalar.addi v9 v11
  let c1_i32_796 : BitVec 32 := 1#32
  let v749 : BitVec 32 := Scalar.muli v12 c1_i32_796
  let v750 : BitVec 32 := Scalar.addi c0_i32_797 v749
  v750.toNat
def k0_dev31 (d0 : Dev nD) : Nat :=
  let c0_i32_855 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c3_i32 : BitVec 32 := 3#32
  let v6 : BitVec 32 := Scalar.addi v4 c3_i32
  let c4_i32_2 : BitVec 32 := 4#32
  let v7 : BitVec 32 := Scalar.remsi v6 c4_i32_2
  let v8 : BitVec 32 := Scalar.addi v5 v7
  let c1_i32_854 : BitVec 32 := 1#32
  let v803 : BitVec 32 := Scalar.muli v8 c1_i32_854
  let v804 : BitVec 32 := Scalar.addi c0_i32_855 v803
  v804.toNat
def k0_dev32 (d0 : Dev nD) : Nat :=
  let c0_i32_892 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_3 v3
  let c4_i32_0 : BitVec 32 := 4#32
  let v4 : BitVec 32 := Scalar.remsi v2 c4_i32_0
  let c1_i32_4 : BitVec 32 := 1#32
  let v10 : BitVec 32 := Scalar.addi v4 c1_i32_4
  let c4_i32_5 : BitVec 32 := 4#32
  let v11 : BitVec 32 := Scalar.remsi v10 c4_i32_5
  let v12 : BitVec 32 := Scalar.addi v9 v11
  let c1_i32_891 : BitVec 32 := 1#32
  let v835 : BitVec 32 := Scalar.muli v12 c1_i32_891
  let v836 : BitVec 32 := Scalar.addi c0_i32_892 v835
  v836.toNat
def k0_off6 (d0 : Dev nD) (c_m2_i32_977 : BitVec 32) (c0_i32_981 : BitVec 32) : Fin 3 → Nat :=
  let c1_i32_997 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v911 : BitVec 32 := Scalar.addi v3 c_m2_i32_977
  let c8_i32_978 : BitVec 32 := 8#32
  let v912 : BitVec 32 := Scalar.addi v911 c8_i32_978
  let c4_i32_979 : BitVec 32 := 4#32
  let v913 : BitVec 32 := Scalar.remsi v912 c4_i32_979
  let c64_i32_980 : BitVec 32 := 64#32
  let v914 : BitVec 32 := Scalar.muli v913 c64_i32_980
  let v915 : BitVec 32 := Scalar.addi v914 c0_i32_981
  let c0_i32_1007 : BitVec 32 := 0#32
  ![1, v915.toNat, 0]
def k0_off6_at (r : Fin 8) : BitVec 32 × BitVec 32 :=
  if r.val < 4 then
    if r.val < 2 then
      if r.val < 1 then
        (4294967294#32, 0#32)
      else
        (1#32, 0#32)
    else
      if r.val < 3 then
        (2#32, 32#32)
      else
        (4294967295#32, 32#32)
  else
    if r.val < 6 then
      if r.val < 5 then
        (4294967295#32, 0#32)
      else
        (1#32, 32#32)
    else
      if r.val < 7 then
        (0#32, 0#32)
      else
        (0#32, 32#32)
def k0_dev33 (d0 : Dev nD) : Nat :=
  let c0_i32_1004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_6 : BitVec 32 := 16#32
  let v14 : BitVec 32 := Scalar.remsi v13 c16_i32_6
  let c1_i32_1003 : BitVec 32 := 1#32
  let v931 : BitVec 32 := Scalar.muli v14 c1_i32_1003
  let v932 : BitVec 32 := Scalar.addi c0_i32_1004 v931
  v932.toNat
def k0_dev34 (d0 : Dev nD) : Nat :=
  let c0_i32_1015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_1014 : BitVec 32 := 1#32
  let v941 : BitVec 32 := Scalar.muli v16 c1_i32_1014
  let v942 : BitVec 32 := Scalar.addi c0_i32_1015 v941
  v942.toNat
def k0_dev35 (d0 : Dev nD) : Nat :=
  let c0_i32_1026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_1025 : BitVec 32 := 1#32
  let v951 : BitVec 32 := Scalar.muli v16 c1_i32_1025
  let v952 : BitVec 32 := Scalar.addi c0_i32_1026 v951
  v952.toNat
def k0_dev36 (d0 : Dev nD) : Nat :=
  let c0_i32_1037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_6 : BitVec 32 := 16#32
  let v14 : BitVec 32 := Scalar.remsi v13 c16_i32_6
  let c1_i32_1036 : BitVec 32 := 1#32
  let v961 : BitVec 32 := Scalar.muli v14 c1_i32_1036
  let v962 : BitVec 32 := Scalar.addi c0_i32_1037 v961
  v962.toNat
def k0_dev37 (d0 : Dev nD) : Nat :=
  let c0_i32_1074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_6 : BitVec 32 := 16#32
  let v14 : BitVec 32 := Scalar.remsi v13 c16_i32_6
  let c1_i32_1073 : BitVec 32 := 1#32
  let v993 : BitVec 32 := Scalar.muli v14 c1_i32_1073
  let v994 : BitVec 32 := Scalar.addi c0_i32_1074 v993
  v994.toNat
def k0_dev38 (d0 : Dev nD) : Nat :=
  let c0_i32_1112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_1111 : BitVec 32 := 1#32
  let v1025 : BitVec 32 := Scalar.muli v16 c1_i32_1111
  let v1026 : BitVec 32 := Scalar.addi c0_i32_1112 v1025
  v1026.toNat
def k0_dev39 (d0 : Dev nD) : Nat :=
  let c0_i32_1291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_1290 : BitVec 32 := 1#32
  let v1204 : BitVec 32 := Scalar.muli v16 c1_i32_1290
  let v1205 : BitVec 32 := Scalar.addi c0_i32_1291 v1204
  v1205.toNat
def k0_dev40 (d0 : Dev nD) : Nat :=
  let c0_i32_1299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_6 : BitVec 32 := 16#32
  let v14 : BitVec 32 := Scalar.remsi v13 c16_i32_6
  let c1_i32_1298 : BitVec 32 := 1#32
  let v1212 : BitVec 32 := Scalar.muli v14 c1_i32_1298
  let v1213 : BitVec 32 := Scalar.addi c0_i32_1299 v1212
  v1213.toNat
def k0_dev41 (d0 : Dev nD) : Nat :=
  let c0_i32_1307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_6 : BitVec 32 := 16#32
  let v14 : BitVec 32 := Scalar.remsi v13 c16_i32_6
  let c1_i32_1306 : BitVec 32 := 1#32
  let v1220 : BitVec 32 := Scalar.muli v14 c1_i32_1306
  let v1221 : BitVec 32 := Scalar.addi c0_i32_1307 v1220
  v1221.toNat
def k0_dev42 (d0 : Dev nD) : Nat :=
  let c0_i32_1315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_1314 : BitVec 32 := 1#32
  let v1228 : BitVec 32 := Scalar.muli v16 c1_i32_1314
  let v1229 : BitVec 32 := Scalar.addi c0_i32_1315 v1228
  v1229.toNat
def k0_dev43 (d0 : Dev nD) : Nat :=
  let c0_i32_1331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_7 : BitVec 32 := 4#32
  let v15 : BitVec 32 := Scalar.addi v2 c4_i32_7
  let c16_i32_8 : BitVec 32 := 16#32
  let v16 : BitVec 32 := Scalar.remsi v15 c16_i32_8
  let c1_i32_1330 : BitVec 32 := 1#32
  let v1242 : BitVec 32 := Scalar.muli v16 c1_i32_1330
  let v1243 : BitVec 32 := Scalar.addi c0_i32_1331 v1242
  v1243.toNat
def k0_dev44 (d0 : Dev nD) : Nat :=
  let c0_i32_1347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v13 : BitVec 32 := Scalar.addi v2 c12_i32
  let c16_i32_6 : BitVec 32 := 16#32
  let v14 : BitVec 32 := Scalar.remsi v13 c16_i32_6
  let c1_i32_1346 : BitVec 32 := 1#32
  let v1256 : BitVec 32 := Scalar.muli v14 c1_i32_1346
  let v1257 : BitVec 32 := Scalar.addi c0_i32_1347 v1256
  v1257.toNat
def k0_dev45 (d0 : Dev nD) : Nat :=
  let c0_i32_1435 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_3 v3
  let c4_i32_0 : BitVec 32 := 4#32
  let v4 : BitVec 32 := Scalar.remsi v2 c4_i32_0
  let c1_i32_4 : BitVec 32 := 1#32
  let v10 : BitVec 32 := Scalar.addi v4 c1_i32_4
  let c4_i32_5 : BitVec 32 := 4#32
  let v11 : BitVec 32 := Scalar.remsi v10 c4_i32_5
  let v12 : BitVec 32 := Scalar.addi v9 v11
  let c1_i32_1434 : BitVec 32 := 1#32
  let v1336 : BitVec 32 := Scalar.muli v12 c1_i32_1434
  let v1337 : BitVec 32 := Scalar.addi c0_i32_1435 v1336
  v1337.toNat
def k0_dev46 (d0 : Dev nD) : Nat :=
  let c0_i32_1443 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c3_i32 : BitVec 32 := 3#32
  let v6 : BitVec 32 := Scalar.addi v4 c3_i32
  let c4_i32_2 : BitVec 32 := 4#32
  let v7 : BitVec 32 := Scalar.remsi v6 c4_i32_2
  let v8 : BitVec 32 := Scalar.addi v5 v7
  let c1_i32_1442 : BitVec 32 := 1#32
  let v1344 : BitVec 32 := Scalar.muli v8 c1_i32_1442
  let v1345 : BitVec 32 := Scalar.addi c0_i32_1443 v1344
  v1345.toNat
def k0_dev47 (d0 : Dev nD) : Nat :=
  let c0_i32_1451 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c3_i32 : BitVec 32 := 3#32
  let v6 : BitVec 32 := Scalar.addi v4 c3_i32
  let c4_i32_2 : BitVec 32 := 4#32
  let v7 : BitVec 32 := Scalar.remsi v6 c4_i32_2
  let v8 : BitVec 32 := Scalar.addi v5 v7
  let c1_i32_1450 : BitVec 32 := 1#32
  let v1352 : BitVec 32 := Scalar.muli v8 c1_i32_1450
  let v1353 : BitVec 32 := Scalar.addi c0_i32_1451 v1352
  v1353.toNat
def k0_dev48 (d0 : Dev nD) : Nat :=
  let c0_i32_1459 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_3 v3
  let c4_i32_0 : BitVec 32 := 4#32
  let v4 : BitVec 32 := Scalar.remsi v2 c4_i32_0
  let c1_i32_4 : BitVec 32 := 1#32
  let v10 : BitVec 32 := Scalar.addi v4 c1_i32_4
  let c4_i32_5 : BitVec 32 := 4#32
  let v11 : BitVec 32 := Scalar.remsi v10 c4_i32_5
  let v12 : BitVec 32 := Scalar.addi v9 v11
  let c1_i32_1458 : BitVec 32 := 1#32
  let v1360 : BitVec 32 := Scalar.muli v12 c1_i32_1458
  let v1361 : BitVec 32 := Scalar.addi c0_i32_1459 v1360
  v1361.toNat
def k0_dev49 (d0 : Dev nD) : Nat :=
  let c0_i32_1547 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_3 v3
  let c4_i32_0 : BitVec 32 := 4#32
  let v4 : BitVec 32 := Scalar.remsi v2 c4_i32_0
  let c1_i32_4 : BitVec 32 := 1#32
  let v10 : BitVec 32 := Scalar.addi v4 c1_i32_4
  let c4_i32_5 : BitVec 32 := 4#32
  let v11 : BitVec 32 := Scalar.remsi v10 c4_i32_5
  let v12 : BitVec 32 := Scalar.addi v9 v11
  let c1_i32_1546 : BitVec 32 := 1#32
  let v1446 : BitVec 32 := Scalar.muli v12 c1_i32_1546
  let v1447 : BitVec 32 := Scalar.addi c0_i32_1547 v1446
  v1447.toNat
def k0_dev50 (d0 : Dev nD) : Nat :=
  let c0_i32_1563 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c3_i32 : BitVec 32 := 3#32
  let v6 : BitVec 32 := Scalar.addi v4 c3_i32
  let c4_i32_2 : BitVec 32 := 4#32
  let v7 : BitVec 32 := Scalar.remsi v6 c4_i32_2
  let v8 : BitVec 32 := Scalar.addi v5 v7
  let c1_i32_1562 : BitVec 32 := 1#32
  let v1460 : BitVec 32 := Scalar.muli v8 c1_i32_1562
  let v1461 : BitVec 32 := Scalar.addi c0_i32_1563 v1460
  v1461.toNat
def k0_dev51 (d0 : Dev nD) : Nat :=
  let c0_i32_1683 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v9 : BitVec 32 := Scalar.muli c4_i32_3 v3
  let c4_i32_0 : BitVec 32 := 4#32
  let v4 : BitVec 32 := Scalar.remsi v2 c4_i32_0
  let c1_i32_4 : BitVec 32 := 1#32
  let v10 : BitVec 32 := Scalar.addi v4 c1_i32_4
  let c4_i32_5 : BitVec 32 := 4#32
  let v11 : BitVec 32 := Scalar.remsi v10 c4_i32_5
  let v12 : BitVec 32 := Scalar.addi v9 v11
  let c1_i32_1682 : BitVec 32 := 1#32
  let v1570 : BitVec 32 := Scalar.muli v12 c1_i32_1682
  let v1571 : BitVec 32 := Scalar.addi c0_i32_1683 v1570
  v1571.toNat
def k0_dev52 (d0 : Dev nD) : Nat :=
  let c0_i32_1699 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v5 : BitVec 32 := Scalar.muli c4_i32_1 v3
  let c4_i32_0 : BitVec 32 := 4#32
  let v4 : BitVec 32 := Scalar.remsi v2 c4_i32_0
  let c3_i32 : BitVec 32 := 3#32
  let v6 : BitVec 32 := Scalar.addi v4 c3_i32
  let c4_i32_2 : BitVec 32 := 4#32
  let v7 : BitVec 32 := Scalar.remsi v6 c4_i32_2
  let v8 : BitVec 32 := Scalar.addi v5 v7
  let c1_i32_1698 : BitVec 32 := 1#32
  let v1584 : BitVec 32 := Scalar.muli v8 c1_i32_1698
  let v1585 : BitVec 32 := Scalar.addi c0_i32_1699 v1584
  v1585.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x1024 : Shape := ⟨2, ![32768, 1024]⟩
abbrev S16x2048x1024 : Shape := ⟨3, ![16, 2048, 1024]⟩
abbrev S_ : Shape := ⟨0, ![]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x2048x1024, .f32⟩
  | .hbm, ⟨2, _⟩ => ⟨S_, .f32⟩
  | .hbm, ⟨3, _⟩ => ⟨S2048x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/-
The kernel's program written once: the 48 transfers of a device as a table (phase, half of the columns of work,
number), and the program as the sequence of starts, waits, loads and stores over that table. The printed program IS
this one, by definitional unfolding (`body_eq`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option backward.proofsInPublic true

noncomputable section

namespace Cert.ArProof

open Cert.KernelIdeal Cert.KernelIdeal.Gen
open Idealize.ShloMosaic Idealize.SL.Sem

variable {F : FTy → Type} [FloatOps F]

/-! ## Words and bounds -/

/-- The word of a relative block number: minus two, minus one, zero, one, two. -/
def wd : Fin 5 → BitVec 32
  | 0 => 4294967294#32
  | 1 => 4294967295#32
  | 2 => 0#32
  | 3 => 1#32
  | 4 => 2#32

/-- The word of a half's first row in its block. -/
def gw : Fin 2 → BitVec 32
  | 0 => 0#32
  | 1 => 256#32

/-- The word of the first row of a 128-row part. -/
def hw128 : Fin 2 → BitVec 32
  | 0 => 0#32
  | 1 => 128#32

/-- The word of the first row of a 32-row part. -/
def hw32 : Fin 2 → BitVec 32
  | 0 => 0#32
  | 1 => 32#32

/-- The offsets of a 128-row slice of the input or the output. -/
def off128 (c : Dev nD) (w : Fin 5) (g h : Fin 2) : Fin 2 → ℕ := k0_off1 c (wd w) (gw g) (hw128 h)

/-- The offsets of a 32-row slice of the output. -/
def off32 (c : Dev nD) (w : Fin 5) (g h : Fin 2) : Fin 2 → ℕ := k0_off5 c (gw g) (wd w) (hw32 h)

/-- The offsets of a 32-row slice of the partial sums. -/
def offP (c : Dev nD) (w : Fin 5) (g h : Fin 2) : Fin 3 → ℕ :=
  match g with
  | 0 => k0_off2 c (wd w) (hw32 h)
  | 1 => k0_off6 c (wd w) (hw32 h)

/-- The offsets at which the kernel stores a device's 32 rows of the output. -/
def offO (c : Dev nD) (g h : Fin 2) : Fin 2 → ℕ :=
  match h with
  | 0 => k0_off3 c (gw g)
  | 1 => k0_off4 c (gw g)

/-- The block number `w` names, relative to the device's own and modulo four. -/
def wn : Fin 5 → ℕ
  | 0 => 2
  | 1 => 3
  | 2 => 0
  | 3 => 1
  | 4 => 2

theorem off128_eq : ∀ (c : Dev nD) (w : Fin 5) (g h : Fin 2),
    off128 c w g h = ![512 * ((c.val + wn w) % 4) + 256 * g.val + 128 * h.val, 0] := by decide +kernel
theorem off32_eq : ∀ (c : Dev nD) (w : Fin 5) (g h : Fin 2),
    off32 c w g h = ![512 * (c.val % 4) + 256 * g.val + 64 * ((c.val / 4 + wn w) % 4) + 32 * h.val, 0] := by decide +kernel
theorem offP_eq : ∀ (c : Dev nD) (w : Fin 5) (g h : Fin 2),
    offP c w g h = ![g.val, 64 * ((c.val / 4 + wn w) % 4) + 32 * h.val, 0] := by decide +kernel
theorem offO_eq : ∀ (c : Dev nD) (g h : Fin 2), offO c g h = off32 c 2 g h := by decide +kernel

theorem inb128 : ∀ (c : Dev nD) (w : Fin 5) (g h : Fin 2), ∀ a, off128 c w g h a + S128x1024.size a ≤ S2048x1024.size a := by
  intro c w g h a; rw [off128_eq]; revert c w g h a; decide +kernel
theorem inb32 : ∀ (c : Dev nD) (w : Fin 5) (g h : Fin 2), ∀ a, off32 c w g h a + S32x1024.size a ≤ S2048x1024.size a := by
  intro c w g h a; rw [off32_eq]; revert c w g h a; decide +kernel
theorem inbP : ∀ (c : Dev nD) (w : Fin 5) (g h : Fin 2), ∀ a, offP c w g h a + S1x32x1024.size a ≤ S2x256x1024.size a := by
  intro c w g h a; rw [offP_eq]; revert c w g h a; decide +kernel
theorem inbO (c : Dev nD) (g h : Fin 2) (a) : offO c g h a + S32x1024.size a ≤ S2048x1024.size a := by
  rw [offO_eq]; exact inb32 c 2 g h a
theorem inbA : ∀ g : Fin 2, ∀ a, (![g.val, 0, 0] : Fin 3 → ℕ) a + S1x128x1024.size a ≤ S2x128x1024.size a := by decide
theorem inbB : ∀ g : Fin 2, ∀ a, (![g.val, 0, 0] : Fin 3 → ℕ) a + S1x32x1024.size a ≤ S2x32x1024.size a := by decide
theorem inbH : ∀ g h : Fin 2, ∀ a, (![g.val, 128 * h.val, 0] : Fin 3 → ℕ) a + S1x128x1024.size a ≤ S2x256x1024.size a := by decide
theorem inbS : ∀ (g : Fin 2) (k : Fin 6), ∀ a, (![g.val, k.val] : Fin 2 → ℕ) a + S1x1.size a ≤ S2x6.size a := by decide

/-! ## Buffers and slices -/

/-- The input's copy in fast memory and the output's. -/
abbrev xM : Memref sig .tc .vmem S2048x1024 .f32 := Memref.whole cc0_stg0_0
abbrev oM : Memref sig .tc .vmem S2048x1024 .f32 := Memref.whole cc0_stg1_0
/-- The partial sums. -/
abbrev pM : Memref sig .tc .vmem S2x256x1024 .f32 := Memref.whole cc0_scratch6

/-- The landing buffers of the first phase. -/
def aM : Fin 6 → Memref sig .tc .vmem S2x128x1024 .f32
  | 0 => Memref.whole cc0_scratch0
  | 1 => Memref.whole cc0_scratch1
  | 2 => Memref.whole cc0_scratch2
  | 3 => Memref.whole cc0_scratch3
  | 4 => Memref.whole cc0_scratch4
  | 5 => Memref.whole cc0_scratch5

/-- The landing buffers of the second phase. -/
def bM : Fin 6 → Memref sig .tc .vmem S2x32x1024 .f32
  | 0 => Memref.whole cc0_scratch7
  | 1 => Memref.whole cc0_scratch8
  | 2 => Memref.whole cc0_scratch9
  | 3 => Memref.whole cc0_scratch10
  | 4 => Memref.whole cc0_scratch11
  | 5 => Memref.whole cc0_scratch12

abbrev rA (g : Fin 2) : Rect S2x128x1024 := Rect.unit (s := S2x128x1024) ![g.val, 0, 0] S1x128x1024.size (inbA g)
abbrev rB (g : Fin 2) : Rect S2x32x1024 := Rect.unit (s := S2x32x1024) ![g.val, 0, 0] S1x32x1024.size (inbB g)
abbrev rH (g h : Fin 2) : Rect S2x256x1024 := Rect.unit (s := S2x256x1024) ![g.val, 128 * h.val, 0] S1x128x1024.size (inbH g h)
abbrev rO (c : Dev nD) (g h : Fin 2) : Rect S2048x1024 := Rect.unit (s := S2048x1024) (offO c g h) S32x1024.size (inbO c g h)

/-- Half `g` of a landing buffer of the first phase. -/
def aS (k : Fin 6) (g : Fin 2) : Memref sig .tc .vmem S128x1024 .f32 :=
  ((aM k).slice (rA g) (fun _ => rfl)).squeeze S128x1024 squeezes_S1x128x1024_S128x1024
/-- Half `g` of a landing buffer of the second phase. -/
def bS (k : Fin 6) (g : Fin 2) : Memref sig .tc .vmem S32x1024 .f32 :=
  ((bM k).slice (rB g) (fun _ => rfl)).squeeze S32x1024 squeezes_S1x32x1024_S32x1024
/-- 128 rows of the input. -/
def xS (c : Dev nD) (w : Fin 5) (g h : Fin 2) : Memref sig .tc .vmem S128x1024 .f32 :=
  xM.slice (Rect.unit (s := S2048x1024) (off128 c w g h) S128x1024.size (inb128 c w g h)) (fun _ => rfl)
/-- 128 rows of the output. -/
def oS (c : Dev nD) (w : Fin 5) (g h : Fin 2) : Memref sig .tc .vmem S128x1024 .f32 :=
  oM.slice (Rect.unit (s := S2048x1024) (off128 c w g h) S128x1024.size (inb128 c w g h)) (fun _ => rfl)
/-- 32 rows of the output. -/
def qS (c : Dev nD) (w : Fin 5) (g h : Fin 2) : Memref sig .tc .vmem S32x1024 .f32 :=
  oM.slice (Rect.unit (s := S2048x1024) (off32 c w g h) S32x1024.size (inb32 c w g h)) (fun _ => rfl)
/-- 32 rows of the partial sums. -/
def pS (c : Dev nD) (w : Fin 5) (g h : Fin 2) : Memref sig .tc .vmem S32x1024 .f32 :=
  (pM.slice (Rect.unit (s := S2x256x1024) (offP c w g h) S1x32x1024.size (inbP c w g h)) (fun _ => rfl)).squeeze S32x1024 squeezes_S1x32x1024_S32x1024

/-! ## The transfers -/

/-- A transfer: its phase (reduce along a row, reduce along a column, gather along a column, gather along a row), its
half and its number. -/
abbrev Tr : Type := Fin 4 × Fin 2 × Fin 6

/-- The neighbour in a direction: left and right in the row of four, down and up in the column of four. -/
def nb : Fin 4 → Dev nD → Dev nD
  | 0 => fun c => ⟨k0_dev5 c, k0_dev5_lt c⟩
  | 1 => fun c => ⟨k0_dev6 c, k0_dev6_lt c⟩
  | 2 => fun c => ⟨k0_dev15 c, k0_dev15_lt c⟩
  | 3 => fun c => ⟨k0_dev16 c, k0_dev16_lt c⟩

/-- The direction of a transfer. -/
def dir : Fin 4 → Fin 6 → Fin 4
  | 0 => fun | 0 => 0 | 1 => 1 | 2 => 0 | 3 => 1 | 4 => 0 | 5 => 1
  | 1 => fun | 0 => 2 | 1 => 3 | 2 => 2 | 3 => 3 | 4 => 2 | 5 => 3
  | 2 => fun | 0 => 3 | 1 => 2 | 2 => 2 | 3 => 3 | 4 => 3 | 5 => 2
  | 3 => fun | 0 => 1 | 1 => 0 | 2 => 0 | 3 => 1 | 4 => 1 | 5 => 0

/-- The shape a phase's transfers move. -/
def shp : Fin 4 → Shape
  | 0 => S128x1024
  | 1 => S32x1024
  | 2 => S32x1024
  | 3 => S128x1024

/-- What device `c` sends. -/
def src (c : Dev nD) (ph : Fin 4) (g : Fin 2) (k : Fin 6) : Memref sig .tc .vmem (shp ph) .f32 :=
  match ph with
  | 0 => match k with
    | 0 => xS c 0 g 0 | 1 => xS c 3 g 0 | 2 => aS 0 g | 3 => xS c 4 g 1 | 4 => xS c 1 g 1 | 5 => aS 3 g
  | 1 => match k with
    | 0 => pS c 0 g 0 | 1 => pS c 3 g 0 | 2 => bS 0 g | 3 => pS c 4 g 1 | 4 => pS c 1 g 1 | 5 => bS 3 g
  | 2 => match k with
    | 0 => qS c 2 g 0 | 1 => qS c 2 g 0 | 2 => qS c 2 g 1 | 3 => qS c 2 g 1 | 4 => qS c 1 g 0 | 5 => qS c 3 g 1
  | 3 => match k with
    | 0 => oS c 2 g 0 | 1 => oS c 2 g 0 | 2 => oS c 2 g 1 | 3 => oS c 2 g 1 | 4 => oS c 1 g 0 | 5 => oS c 3 g 1

/-- Where it lands, as device `c` names it. -/
def dst (c : Dev nD) (ph : Fin 4) (g : Fin 2) (k : Fin 6) : Memref sig .tc .vmem (shp ph) .f32 :=
  match ph with
  | 0 => aS k g
  | 1 => bS k g
  | 2 => match k with
    | 0 => qS c 2 g 0 | 1 => qS c 2 g 0 | 2 => qS c 2 g 1 | 3 => qS c 2 g 1 | 4 => qS c 1 g 0 | 5 => qS c 3 g 1
  | 3 => match k with
    | 0 => oS c 2 g 0 | 1 => oS c 2 g 0 | 2 => oS c 2 g 1 | 3 => oS c 2 g 1 | 4 => oS c 1 g 0 | 5 => oS c 3 g 1

def sArr : Fin 4 → DmaSems sig S2x6
  | 0 => cc0_scratch13 | 1 => cc0_scratch15 | 2 => cc0_scratch17 | 3 => cc0_scratch19
def rArr : Fin 4 → DmaSems sig S2x6
  | 0 => cc0_scratch14 | 1 => cc0_scratch16 | 2 => cc0_scratch18 | 3 => cc0_scratch20

/-- The semaphore a transfer signals at its sender. -/
def sS (ph : Fin 4) (g : Fin 2) (k : Fin 6) : DmaSem sig :=
  (((sArr ph).slice (Rect.unit (s := S2x6) ![g.val, k.val] S1x1.size (inbS g k))).squeeze S_ squeezes_S1x1_S_).sem
/-- The semaphore a transfer signals at its receiver. -/
def sR (ph : Fin 4) (g : Fin 2) (k : Fin 6) : DmaSem sig :=
  (((rArr ph).slice (Rect.unit (s := S2x6) ![g.val, k.val] S1x1.size (inbS g k))).squeeze S_ squeezes_S1x1_S_).sem

/-- The barrier semaphore. -/
abbrev barS : Sem sig := (SemArray.scalar (d := ![]) (sig.barrier 0 rfl)).sem

/-! ## The program -/

/-- A program of the core that returns nothing. -/
abbrev PG (F : FTy → Type) := Prog (TpuEff nD τ sig (Elt F) Λ₀ .tc) PUnit

/-- Start a transfer. -/
def tstart (c : Dev nD) (ph : Fin 4) (g : Fin 2) (k : Fin 6) (K : PG F) : PG F :=
  Prog.op (.enqueueDma (src c ph g k) (.remote (Dev.tc (nb (dir ph k) c)) (dst c ph g k) (.dma (sS ph g k))) (.dma (sR ph g k))
    (View.wordExact_bits rfl) (View.wordExact_bits rfl) ⟨⟨rfl, Or.inl rfl⟩, trivial⟩) fun _ => K
/-- Wait until the transfer with this number has landed here. -/
def twaitR (c : Dev nD) (ph : Fin 4) (g : Fin 2) (k : Fin 6) (K : PG F) : PG F :=
  Prog.op (.waitDma2 (sR ph g k) (src c ph g k) (dst c ph g k) (View.wordExact_bits rfl) (View.wordExact_bits rfl)) fun _ => K
/-- Wait until the device's own transfer has left. -/
def twaitS (c : Dev nD) (ph : Fin 4) (g : Fin 2) (k : Fin 6) (K : PG F) : PG F :=
  Prog.op (.waitDma2 (sS ph g k) (dst c ph g k) (src c ph g k) (View.wordExact_bits rfl) (View.wordExact_bits rfl)) fun _ => K

def ldA (k : Fin 6) (g : Fin 2) (K : Vec F S1x128x1024 .f32 → PG F) : PG F :=
  Prog.op (.load (aM k) (rA g).toLoadRect (View.loadsAt_vmem h_S1x128x1024)) K
def stA (k : Fin 6) (g : Fin 2) (v : FVec F S1x128x1024 .f32) (K : PG F) : PG F :=
  Prog.op (.store (aM k) (rA g) v Finset.univ (View.stores_vmem_bits_univ h_S1x128x1024 rfl) (.inl rfl)) fun _ => K
def ldX (c : Dev nD) (w : Fin 5) (g h : Fin 2) (K : Vec F S128x1024 .f32 → PG F) : PG F :=
  Prog.op (.load (xS c w g h) (Rect.unit (s := S128x1024) ![0, 0] S128x1024.size inb_S128x1024_S128x1024_0_0).toLoadRect (View.loadsAt_vmem h_S128x1024)) K
def ldH (g h : Fin 2) (K : Vec F S1x128x1024 .f32 → PG F) : PG F :=
  Prog.op (.load pM (rH g h).toLoadRect (View.loadsAt_vmem h_S1x128x1024)) K
def stH (g h : Fin 2) (v : FVec F S1x128x1024 .f32) (K : PG F) : PG F :=
  Prog.op (.store pM (rH g h) v Finset.univ (View.stores_vmem_bits_univ h_S1x128x1024 rfl) (.inl rfl)) fun _ => K
def ldB (k : Fin 6) (g : Fin 2) (K : Vec F S1x32x1024 .f32 → PG F) : PG F :=
  Prog.op (.load (bM k) (rB g).toLoadRect (View.loadsAt_vmem h_S1x32x1024)) K
def stB (k : Fin 6) (g : Fin 2) (v : FVec F S1x32x1024 .f32) (K : PG F) : PG F :=
  Prog.op (.store (bM k) (rB g) v Finset.univ (View.stores_vmem_bits_univ h_S1x32x1024 rfl) (.inl rfl)) fun _ => K
def ldP (c : Dev nD) (w : Fin 5) (g h : Fin 2) (K : Vec F S32x1024 .f32 → PG F) : PG F :=
  Prog.op (.load (pS c w g h) (Rect.unit (s := S32x1024) ![0, 0] S32x1024.size inb_S32x1024_S32x1024_0_0).toLoadRect (View.loadsAt_vmem h_S32x1024)) K
def ldO (c : Dev nD) (g h : Fin 2) (K : Vec F S32x1024 .f32 → PG F) : PG F :=
  Prog.op (.load oM (rO c g h).toLoadRect (View.loadsAt_vmem h_S32x1024)) K
def stO (c : Dev nD) (g h : Fin 2) (v : FVec F S32x1024 .f32) (K : PG F) : PG F :=
  Prog.op (.store oM (rO c g h) v Finset.univ (View.stores_vmem_bits_univ h_S32x1024 rfl) (.inl rfl)) fun _ => K

/-- What landed in a buffer plus 128 rows of the input. -/
def sum2A (v : Vec F S1x128x1024 .f32) (x : Vec F S128x1024 .f32) : FVec F S1x128x1024 .f32 :=
  shapeCast S1x128x1024 (addf (shapeCast S128x1024 v shapeCasts_S1x128x1024_S128x1024 : FVec F S128x1024 .f32)
    (shapeCast S128x1024 x shapeCasts_S128x1024_S128x1024)) shapeCasts_S128x1024_S1x128x1024
/-- What landed in two buffers plus 128 rows of the input. -/
def sum3A (v w : Vec F S1x128x1024 .f32) (x : Vec F S128x1024 .f32) : FVec F S1x128x1024 .f32 :=
  shapeCast S1x128x1024 (addf (addf (shapeCast S128x1024 v shapeCasts_S1x128x1024_S128x1024 : FVec F S128x1024 .f32)
    (shapeCast S128x1024 w shapeCasts_S1x128x1024_S128x1024))
    (shapeCast S128x1024 x shapeCasts_S128x1024_S128x1024)) shapeCasts_S128x1024_S1x128x1024
/-- What landed in a buffer plus 32 rows of the partial sums. -/
def sum2B (v : Vec F S1x32x1024 .f32) (x : Vec F S32x1024 .f32) : FVec F S1x32x1024 .f32 :=
  shapeCast S1x32x1024 (addf (shapeCast S32x1024 v shapeCasts_S1x32x1024_S32x1024 : FVec F S32x1024 .f32) x) shapeCasts_S32x1024_S1x32x1024
/-- What landed in two buffers plus 32 rows of the partial sums. -/
def sum3B (v w : Vec F S1x32x1024 .f32) (x : Vec F S32x1024 .f32) : FVec F S32x1024 .f32 :=
  addf (addf (shapeCast S32x1024 v shapeCasts_S1x32x1024_S32x1024 : FVec F S32x1024 .f32)
    (shapeCast S32x1024 w shapeCasts_S1x32x1024_S32x1024)) x

/-- The handshake: signal the four neighbours, wait for four signals. -/
def handshake (c : Dev nD) (K : PG F) : PG F :=
  Prog.op (.semSignal (nb 0 c, .tc) barS (1#32 : BitVec 32).toInt) fun _ =>
  Prog.op (.semSignal (nb 1 c, .tc) barS (1#32 : BitVec 32).toInt) fun _ =>
  Prog.op (.semSignal (nb 2 c, .tc) barS (1#32 : BitVec 32).toInt) fun _ =>
  Prog.op (.semSignal (nb 3 c, .tc) barS (1#32 : BitVec 32).toInt) fun _ =>
  Prog.op (.semWait barS (4#32 : BitVec 32).toInt) fun _ => K

/-- The first four transfers along the row. -/
def startA (c : Dev nD) (g : Fin 2) (K : PG F) : PG F :=
  tstart c 0 g 0 <| tstart c 0 g 1 <| tstart c 0 g 3 <| tstart c 0 g 4 K

/-- The reduction along the row: two buffers completed and sent on, the partial sums stored. -/
def rowSum (c : Dev nD) (g : Fin 2) (K : PG F) : PG F :=
  twaitR c 0 g 0 <| ldA 0 g fun v => ldX c 1 g 0 fun x => ldA 0 g fun _ => stA 0 g (sum2A v x) <| tstart c 0 g 2 <|
  twaitR c 0 g 3 <| ldA 3 g fun v => ldX c 3 g 1 fun x => ldA 3 g fun _ => stA 3 g (sum2A v x) <| tstart c 0 g 5 <|
  twaitR c 0 g 1 <| twaitR c 0 g 2 <| ldA 2 g fun v => ldA 1 g fun w => ldX c 2 g 0 fun x => ldH g 0 fun _ => stH g 0 (sum3A v w x) <|
  twaitR c 0 g 4 <| twaitR c 0 g 5 <| ldA 5 g fun v => ldA 4 g fun w => ldX c 2 g 1 fun x => ldH g 1 fun _ => stH g 1 (sum3A v w x) K

/-- The reduction along the column. -/
def colSum (c : Dev nD) (g : Fin 2) (K : PG F) : PG F :=
  tstart c 1 g 0 <| tstart c 1 g 1 <| tstart c 1 g 3 <| tstart c 1 g 4 <|
  twaitR c 1 g 0 <| ldB 0 g fun v => ldP c 1 g 0 fun x => ldB 0 g fun _ => stB 0 g (sum2B v x) <| tstart c 1 g 2 <|
  twaitR c 1 g 3 <| ldB 3 g fun v => ldP c 3 g 1 fun x => ldB 3 g fun _ => stB 3 g (sum2B v x) <| tstart c 1 g 5 <|
  twaitR c 1 g 1 <| twaitR c 1 g 2 <| ldB 2 g fun v => ldB 1 g fun w => ldP c 2 g 0 fun x => ldO c g 0 fun _ => stO c g 0 (sum3B v w x) <|
  twaitR c 1 g 4 <| twaitR c 1 g 5 <| ldB 5 g fun v => ldB 4 g fun w => ldP c 2 g 1 fun x => ldO c g 1 fun _ => stO c g 1 (sum3B v w x) K

/-- The first four transfers of a gather. -/
def startG (c : Dev nD) (ph : Fin 4) (g : Fin 2) (K : PG F) : PG F :=
  tstart c ph g 0 <| tstart c ph g 1 <| tstart c ph g 2 <| tstart c ph g 3 K

/-- The rest of a gather: two landed pieces sent on, everything awaited. -/
def restG (c : Dev nD) (ph : Fin 4) (g : Fin 2) (K : PG F) : PG F :=
  twaitR c ph g 0 <| tstart c ph g 4 <| twaitR c ph g 2 <| tstart c ph g 5 <|
  twaitR c ph g 1 <| twaitR c ph g 3 <| twaitR c ph g 4 <| twaitR c ph g 5 K

/-- Wait for a phase's own transfers. -/
def drainP (c : Dev nD) (ph : Fin 4) (g : Fin 2) (K : PG F) : PG F :=
  twaitS c ph g 0 <| twaitS c ph g 1 <| twaitS c ph g 2 <| twaitS c ph g 3 <| twaitS c ph g 4 <| twaitS c ph g 5 K

def drain (c : Dev nD) (g : Fin 2) (K : PG F) : PG F :=
  drainP c 0 g <| drainP c 1 g <| drainP c 2 g <| drainP c 3 g K

/-- One half of the work: sums along the row and the column, gather along the column, start of the gather along the row. -/
def half (c : Dev nD) (g : Fin 2) (K : PG F) : PG F :=
  rowSum c g <| colSum c g <| startG c 2 g <| restG c 2 g <| startG c 3 g K

/-- A device's program. -/
def prog (c : Dev nD) : PG F :=
  handshake c <| startA c 0 <| startA c 1 <| half c 0 <| half c 1 <| restG c 3 0 <| restG c 3 1 <| drain c 0 <| drain c 1 <| Prog.ret ⟨⟩

set_option maxRecDepth 65536 in
set_option maxHeartbeats 0 in
/-- The printed body is this program. -/
theorem body_eq (h0 h1 h2 h3 h4 h5 h6 h7 h8 h9 h10 h11 h12 h13 h14) :
    cc0_body (F := F) xM h0 oM h1 (aM 0) h2 (aM 1) h3 (aM 2) h4 (aM 3) h5 (aM 4) h6 (aM 5) h7 pM h8
      (bM 0) h9 (bM 1) h10 (bM 2) h11 (bM 3) h12 (bM 4) h13 (bM 5) h14
      cc0_scratch13 cc0_scratch14 cc0_scratch15 cc0_scratch16 cc0_scratch17 cc0_scratch18 cc0_scratch19 cc0_scratch20
      = Prog.op .deviceId fun c => prog c := by
  rw [cc0_body_eq_skeleton]
  rfl

end Cert.ArProof
-- ==== Proof.Common.lean ====
/-
The contents the transfers move, the schedule of the semaphores and what every device owes.

A device's blocks of 128 rows are summed first along its row of four devices and then along its column of four, both
ways at once; the sums are gathered along the column and then along the row. `VA` and `VB` are what the transfers of
the two sums carry, `PRv` and `Qv` the sums a device completes, and `OUT` the array every device ends with.
-/
module

public import proofs.«01_k».proof.Proof.Prog

@[expose] public section

set_option backward.proofsInPublic true

noncomputable section

namespace Cert.ArProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Neighbours and landing places -/

/-- The opposite direction. -/
def opp : Fin 4 → Fin 4
  | 0 => 1 | 1 => 0 | 2 => 3 | 3 => 2

theorem opp_opp : ∀ δ, opp (opp δ) = δ := by decide
/-- Going one way and back. -/
theorem nb_opp : ∀ (δ : Fin 4) (c : Dev nD), nb (opp δ) (nb δ c) = c := by decide +kernel
theorem nb_opp' (δ : Fin 4) (c : Dev nD) : nb δ (nb (opp δ) c) = c := by
  have := nb_opp (opp δ) c; rwa [opp_opp] at this

/-- The neighbours as a permutation of the devices. -/
def nbE (δ : Fin 4) : Dev nD ≃ Dev nD := ⟨nb δ, nb (opp δ), nb_opp δ, nb_opp' δ⟩

/-- The device whose transfer with this phase and number lands here. -/
def snd (ph : Fin 4) (k : Fin 6) (c : Dev nD) : Dev nD := nb (opp (dir ph k)) c
theorem snd_nb (ph : Fin 4) (k : Fin 6) (c : Dev nD) : snd ph k (nb (dir ph k) c) = c := nb_opp _ c
theorem nb_snd (ph : Fin 4) (k : Fin 6) (c : Dev nD) : nb (dir ph k) (snd ph k c) = c := nb_opp' _ c

/-- The relative block and the part of it in which a gather's transfer lands. -/
def lw : Fin 6 → Fin 5
  | 0 => 1 | 1 => 3 | 2 => 3 | 3 => 1 | 4 => 0 | 5 => 4
def lh : Fin 6 → Fin 2
  | 0 => 0 | 1 => 0 | 2 => 1 | 3 => 1 | 4 => 0 | 5 => 1

/-- The relative block and the part of it that a gather's transfer sends. -/
def sw : Fin 6 → Fin 5
  | 0 => 2 | 1 => 2 | 2 => 2 | 3 => 2 | 4 => 1 | 5 => 3
def sh : Fin 6 → Fin 2
  | 0 => 0 | 1 => 0 | 2 => 1 | 3 => 1 | 4 => 0 | 5 => 1

/-- Where a transfer lands, as the device it lands on names the place. -/
def lnd (c : Dev nD) (ph : Fin 4) (g : Fin 2) (k : Fin 6) : Memref sig .tc .vmem (shp ph) .f32 :=
  match ph with
  | 0 => aS k g
  | 1 => bS k g
  | 2 => qS c (lw k) g (lh k)
  | 3 => oS c (lw k) g (lh k)

theorem oS_congr {c c' : Dev nD} {w w' : Fin 5} {g h : Fin 2} (e : (c.val + wn w) % 4 = (c'.val + wn w') % 4) :
    oS c w g h = oS c' w' g h := by
  unfold oS; exact Memref.slice_unit_congr _ (by rw [off128_eq, off128_eq, e]) _ _ _ _
theorem xS_congr {c c' : Dev nD} {w w' : Fin 5} {g h : Fin 2} (e : (c.val + wn w) % 4 = (c'.val + wn w') % 4) :
    xS c w g h = xS c' w' g h := by
  unfold xS; exact Memref.slice_unit_congr _ (by rw [off128_eq, off128_eq, e]) _ _ _ _
theorem qS_congr {c c' : Dev nD} {w w' : Fin 5} {g h : Fin 2} (e₁ : c.val % 4 = c'.val % 4)
    (e : (c.val / 4 + wn w) % 4 = (c'.val / 4 + wn w') % 4) : qS c w g h = qS c' w' g h := by
  unfold qS; exact Memref.slice_unit_congr _ (by rw [off32_eq, off32_eq, e₁, e]) _ _ _ _
theorem pS_congr {c c' : Dev nD} {w w' : Fin 5} {g h : Fin 2}
    (e : (c.val / 4 + wn w) % 4 = (c'.val / 4 + wn w') % 4) : pS c w g h = pS c' w' g h := by
  unfold pS
  exact congrArg (fun m => Memref.squeeze m S32x1024 squeezes_S1x32x1024_S32x1024)
    (Memref.slice_unit_congr pM (by rw [offP_eq, offP_eq, e]) (inbP c w g h) (inbP c' w' g h) (fun _ => rfl) (fun _ => rfl))

theorem row_nb : ∀ c : Dev nD, ((nb 0 c).val + 1) % 4 = c.val % 4 ∧ (nb 1 c).val % 4 = (c.val + 1) % 4
    ∧ (nb 2 c).val % 4 = c.val % 4 ∧ (nb 3 c).val % 4 = c.val % 4 := by decide +kernel
theorem col_nb : ∀ c : Dev nD, ((nb 2 c).val / 4 + 1) % 4 = c.val / 4 % 4 ∧ (nb 3 c).val / 4 % 4 = (c.val / 4 + 1) % 4
    ∧ (nb 0 c).val / 4 = c.val / 4 ∧ (nb 1 c).val / 4 = c.val / 4 := by decide +kernel

/-- The sender and the receiver name the same place. -/
theorem dst_eq (c : Dev nD) (ph : Fin 4) (g : Fin 2) (k : Fin 6) : dst c ph g k = lnd (nb (dir ph k) c) ph g k := by
  obtain ⟨r0, r1, r2, r3⟩ := row_nb c
  obtain ⟨p2, p3, p0, p1⟩ := col_nb c
  fin_cases ph
  · rfl
  · rfl
  · fin_cases k <;> refine qS_congr ?_ ?_ <;> simp only [dir, lw, wn, Fin.mk_one, Fin.zero_eta, Fin.reduceFinMk] <;> omega
  · fin_cases k <;> refine oS_congr ?_ <;> simp only [dir, lw, wn, Fin.mk_one, Fin.zero_eta, Fin.reduceFinMk] <;> omega

/-- A gather sends the piece it overwrites at the other device. -/
theorem src_dst2 (c : Dev nD) (g : Fin 2) (k : Fin 6) : src c 2 g k = dst c 2 g k := by fin_cases k <;> rfl
theorem src_dst3 (c : Dev nD) (g : Fin 2) (k : Fin 6) : src c 3 g k = dst c 3 g k := by fin_cases k <;> rfl
theorem src_q (c : Dev nD) (g : Fin 2) (k : Fin 6) : src c 2 g k = qS c (sw k) g (sh k) := by fin_cases k <;> rfl
theorem src_o (c : Dev nD) (g : Fin 2) (k : Fin 6) : src c 3 g k = oS c (sw k) g (sh k) := by fin_cases k <;> rfl

/-! ## Contents -/

/-- The index of a row and a column. -/
def ix2 {a b : ℕ} (i : Fin a) (j : Fin b) : (⟨2, ![a, b]⟩ : Shape).Idx
  | 0 => i
  | 1 => j

section Contents
variable (X : Dev nD → Vec F S2048x1024 .f32)

/-- 128 rows of a device's input. -/
def xV (c : Dev nD) (w : Fin 5) (g h : Fin 2) : Vec F S128x1024 .f32 := (xS c w g h).view.read (Elt F) (X c)

/-- What device `c` sends along its row. -/
def VA (c : Dev nD) (g : Fin 2) (k : Fin 6) : Vec F S128x1024 .f32 :=
  match k with
  | 0 => xV X c 0 g 0
  | 1 => xV X c 3 g 0
  | 2 => addf (xV X (snd 0 0 c) 0 g 0 : FVec F S128x1024 .f32) (xV X c 1 g 0)
  | 3 => xV X c 4 g 1
  | 4 => xV X c 1 g 1
  | 5 => addf (xV X (snd 0 3 c) 4 g 1 : FVec F S128x1024 .f32) (xV X c 3 g 1)

/-- The sum along the row that device `c` completes. -/
def PRv (c : Dev nD) (g h : Fin 2) : Vec F S128x1024 .f32 :=
  match h with
  | 0 => addf (addf (VA X (snd 0 2 c) g 2 : FVec F S128x1024 .f32) (VA X (snd 0 1 c) g 1)) (xV X c 2 g 0)
  | 1 => addf (addf (VA X (snd 0 5 c) g 5 : FVec F S128x1024 .f32) (VA X (snd 0 4 c) g 4)) (xV X c 2 g 1)

/-- The partial sums as one array. -/
def PRf (c : Dev nD) : Vec F S2x256x1024 .f32 := fun i =>
  PRv X c ⟨(i 0).val, (i 0).isLt⟩ ⟨(i 1).val / 128, Nat.div_lt_of_lt_mul (i 1).isLt⟩ (ix2 ⟨(i 1).val % 128, Nat.mod_lt _ (by decide)⟩ (i 2))

/-- 32 rows of the partial sums. -/
def pV (c : Dev nD) (w : Fin 5) (g h : Fin 2) : Vec F S32x1024 .f32 := (pS c w g h).view.read (Elt F) (PRf X c)

/-- What device `c` sends along its column. -/
def VB (c : Dev nD) (g : Fin 2) (k : Fin 6) : Vec F S32x1024 .f32 :=
  match k with
  | 0 => pV X c 0 g 0
  | 1 => pV X c 3 g 0
  | 2 => addf (pV X (snd 1 0 c) 0 g 0 : FVec F S32x1024 .f32) (pV X c 1 g 0)
  | 3 => pV X c 4 g 1
  | 4 => pV X c 1 g 1
  | 5 => addf (pV X (snd 1 3 c) 4 g 1 : FVec F S32x1024 .f32) (pV X c 3 g 1)

/-- The full sum that device `c` completes. -/
def Qv (c : Dev nD) (g h : Fin 2) : Vec F S32x1024 .f32 :=
  match h with
  | 0 => addf (addf (VB X (snd 1 2 c) g 2 : FVec F S32x1024 .f32) (VB X (snd 1 1 c) g 1)) (pV X c 2 g 0)
  | 1 => addf (addf (VB X (snd 1 5 c) g 5 : FVec F S32x1024 .f32) (VB X (snd 1 4 c) g 4)) (pV X c 2 g 1)

/-- The array every device ends with: row `512 j + 256 g + 64 q + 32 h + r` is row `r` of what device `4 q + j`
completed. -/
def OUT : Vec F S2048x1024 .f32 := fun i =>
  Qv X (Fin.ofNat 16 (4 * ((i 0).val % 256 / 64) + (i 0).val / 512)) (Fin.ofNat 2 ((i 0).val % 512 / 256)) (Fin.ofNat 2 ((i 0).val % 64 / 32))
    (ix2 ⟨(i 0).val % 32, Nat.mod_lt _ (by decide)⟩ (i 1))

/-- What device `c`'s transfer carries. -/
def VS (c : Dev nD) (ph : Fin 4) (g : Fin 2) (k : Fin 6) : Vec F (shp ph) .f32 :=
  match ph with
  | 0 => VA X c g k
  | 1 => VB X c g k
  | 2 => (qS c (sw k) g (sh k)).view.read (Elt F) (OUT X)
  | 3 => (oS c (sw k) g (sh k)).view.read (Elt F) (OUT X)

/-- What lands on device `c`. -/
def LV (c : Dev nD) (ph : Fin 4) (g : Fin 2) (k : Fin 6) : Vec F (shp ph) .f32 :=
  match ph with
  | 0 => VA X (snd 0 k c) g k
  | 1 => VB X (snd 1 k c) g k
  | 2 => (qS c (lw k) g (lh k)).view.read (Elt F) (OUT X)
  | 3 => (oS c (lw k) g (lh k)).view.read (Elt F) (OUT X)

end Contents

/-! ## Cells -/

theorem nn_lt (ph : Fin 4) (k : Fin 6) : 0 < (dst 0 ph 0 k).view.dmaCredit := View.dmaCredit_pos _ (by fin_cases ph <;> decide)

/-- The credit of a transfer. -/
def nn (ph : Fin 4) (k : Fin 6) : ℕ := (dst 0 ph 0 k).view.dmaCredit
theorem nn_pos (ph : Fin 4) (k : Fin 6) : 0 < nn ph k := nn_lt ph k

theorem credit_dst (c : Dev nD) (ph : Fin 4) (g : Fin 2) (k : Fin 6) : (dst c ph g k).view.dmaCredit = nn ph k := by
  fin_cases ph <;> fin_cases k <;> rfl
theorem credit_src (c : Dev nD) (ph : Fin 4) (g : Fin 2) (k : Fin 6) : (src c ph g k).view.dmaCredit = nn ph k := by
  fin_cases ph <;> fin_cases k <;> rfl

/-- The semaphore of a transfer at its sender (`false`) or receiver (`true`). -/
def sX : Bool × Tr → DmaSem sig
  | (false, ph, g, k) => sS ph g k
  | (true, ph, g, k) => sR ph g k

/-- The transfer a semaphore belongs to. -/
def dec (q : DmaSem sig) : Option (Bool × Tr) :=
  if 2 ≤ q.val then some (decide ((q.val - 2) % 24 / 12 = 1), Fin.ofNat 4 ((q.val - 2) / 24), Fin.ofNat 2 ((q.val - 2) % 12 / 6), Fin.ofNat 6 ((q.val - 2) % 6))
  else none

theorem dec_sX : ∀ x : Bool × Tr, dec (sX x) = some x := by decide +kernel
theorem dec_sS (ph g k) : dec (sS ph g k) = some (false, ph, g, k) := dec_sX (false, ph, g, k)
theorem dec_sR (ph g k) : dec (sR ph g k) = some (true, ph, g, k) := dec_sX (true, ph, g, k)

abbrev barCell (c : Dev nD) : GSem nD τ sig := ((c : Thread nD τ), .reg barS)
abbrev xCell (c : Dev nD) (x : Bool × Tr) : GSem nD τ sig := ((c : Thread nD τ), .dma (sX x))
abbrev sCell (c : Dev nD) (ph : Fin 4) (g : Fin 2) (k : Fin 6) : GSem nD τ sig := ((c : Thread nD τ), .dma (sS ph g k))
abbrev rCell (c : Dev nD) (ph : Fin 4) (g : Fin 2) (k : Fin 6) : GSem nD τ sig := ((c : Thread nD τ), .dma (sR ph g k))

/-- A device's cells: the barrier's and the transfers'. -/
abbrev CI : Type := Unit ⊕ (Bool × Tr)
abbrev csem : CI → SemLoc sig
  | .inl _ => .reg barS
  | .inr x => .dma (sX x)
abbrev kcell (ck : Dev nD × CI) : GSem nD τ sig := ((ck.1 : Thread nD τ), csem ck.2)

/-! ## The schedule -/

/-- A buffer's slice owned in full. -/
abbrev own (c : Dev nD) {s : Shape} (m : Memref sig .tc .vmem s .f32) (q : PosShare TreeShare) (v : Vec F s .f32) : sProp 𝕄 :=
  owns (c : Thread nD τ) m q v
/-- The same at some contents. -/
abbrev any (c : Dev nD) {s : Shape} (m : Memref sig .tc .vmem s .f32) : sProp 𝕄 := iprop(∃ v : Vec F s .f32, own c m fullShare v)

/-- The share of its source a transfer takes along. -/
def shr (ph : Fin 4) (k : Fin 6) : PosShare TreeShare :=
  match ph with
  | 0 | 1 => fullShare
  | 2 => match k with
    | 0 | 2 => fullShare.left.left
    | 1 | 3 => fullShare.left.right
    | 4 | 5 => fullShare.left
  | 3 => match k with
    | 0 | 2 => fullShare.right.left
    | 1 | 3 => fullShare.right.right
    | 4 | 5 => fullShare

/-- What the neighbour in direction `δ` hands over at the handshake: the landing places of the transfers that way. -/
def barPay (c : Dev nD) (δ : Fin 4) : sProp 𝕄 :=
  bigSep (Finset.univ.filter fun i : Tr => dir i.1 i.2.2 = δ) fun i => any (F := F) (nb δ c) (lnd (nb δ c) i.1 i.2.1 i.2.2)

section Sched
variable (X : Dev nD → Vec F S2048x1024 .f32)

/-- What a transfer hands back to its sender, and what it hands to its receiver. -/
def xPay (c : Dev nD) : Bool × Tr → sProp 𝕄
  | (false, ph, g, k) => own c (src c ph g k) (shr ph k) (VS X c ph g k)
  | (true, ph, g, k) => own c (lnd c ph g k) fullShare (LV X c ph g k)

instance barPay_storable (c : Dev nD) (δ : Fin 4) : BI.Storable (upEmb : UEmb _ 𝕄) (barPay (F := F) c δ) := by
  unfold barPay; infer_instance
instance xPay_storable (c : Dev nD) (x : Bool × Tr) : BI.Storable (upEmb : UEmb _ 𝕄) (xPay X c x) := by
  obtain ⟨b, ph, g, k⟩ := x; cases b <;> (unfold xPay; infer_instance)

/-- The duties of a semaphore's only round. -/
def dut : SemLoc sig → Finset (Fin 4)
  | .reg s => if s = barS then Finset.univ else ∅
  | .dma q => match dec q with
    | some _ => {0}
    | none => ∅
def amt : SemLoc sig → ℕ
  | .reg _ => 1
  | .dma q => match dec q with
    | some (_, ph, _, k) => nn ph k
    | none => 1
def pay (c : Dev nD) : SemLoc sig → Fin 4 → sProp 𝕄
  | .reg _, δ => barPay c δ
  | .dma q, _ => match dec q with
    | some x => xPay X c x
    | none => iprop(emp)

instance pay_storable (c : Dev nD) (s : SemLoc sig) (δ : Fin 4) : BI.Storable (upEmb : UEmb _ 𝕄) (pay X c s δ) := by
  unfold pay; split
  · infer_instance
  · split <;> infer_instance

/-- One round: a barrier cell has a duty of one unit for every direction, a transfer's cell one duty of its credit. -/
def Rd : Rounds.Schedule (GSem nD τ sig) (Fin 4) 𝕄 where
  duties g r := if r = 0 ∧ g.1.2 = .tc then dut g.2 else ∅
  unitless _ := False
  amount g _ _ := amt g.2
  payload g _ d := pay X g.1.1 g.2 d
  amount_pos g _ _ _ := by
    unfold amt; split
    · exact Nat.one_pos
    · split
      · exact nn_pos _ _
      · exact Nat.one_pos

instance Rd_storable (g : GSem nD τ sig) (r : ℕ) (d : Fin 4) : BI.Storable (upEmb : UEmb _ 𝕄) ((Rd X).payload g r d) :=
  pay_storable X g.1.1 g.2 d

theorem duties_bar (c : Dev nD) : (Rd X).duties (barCell c) 0 = Finset.univ := by
  dsimp only [Rd, dut]; rw [if_pos ⟨rfl, rfl⟩, if_pos rfl]
theorem duties_x (c : Dev nD) (x : Bool × Tr) : (Rd X).duties (xCell c x) 0 = {0} := by
  dsimp only [Rd, dut]; rw [if_pos ⟨rfl, rfl⟩, dec_sX]
theorem duties_later (g : GSem nD τ sig) : ∀ r, 1 ≤ r → (Rd X).duties g r = ∅ :=
  fun r hr => by dsimp only [Rd]; rw [if_neg fun h => by omega]
theorem amount_bar (c : Dev nD) (d : Fin 4) : (Rd X).amount (barCell c) 0 d = 1 := rfl
theorem amount_x (c : Dev nD) (b : Bool) (ph g k) (d : Fin 4) : (Rd X).amount (xCell c (b, ph, g, k)) 0 d = nn ph k := by
  dsimp only [Rd, amt]; rw [dec_sX]
theorem expect_bar (c : Dev nD) : (Rd X).expect (barCell c) 0 = 4 := by
  unfold Schedule.expect Schedule.amountOf
  rw [duties_bar, Finset.sum_congr rfl fun d _ => amount_bar X c d, Finset.sum_const, Finset.card_univ, Fintype.card_fin, smul_eq_mul]
theorem expect_x (c : Dev nD) (b : Bool) (ph g k) : (Rd X).expect (xCell c (b, ph, g, k)) 0 = nn ph k := by
  unfold Schedule.expect Schedule.amountOf; rw [duties_x, Finset.sum_singleton, amount_x]
theorem payload_bar (c : Dev nD) (d : Fin 4) : (Rd X).payload (barCell c) 0 d = barPay c d := rfl
theorem payload_x (c : Dev nD) (x : Bool × Tr) (d : Fin 4) : (Rd X).payload (xCell c x) 0 d = xPay X c x := by
  dsimp only [Rd, pay]; rw [dec_sX]

/-- The rest of a round of which no duty is taken. -/
theorem rest_bar (c : Dev nD) : bigSep ((Rd X).duties (barCell c) 0 \ ∅) (fun d => (Rd X).payload (barCell c) 0 d)
    = bigSep Finset.univ fun δ => barPay (F := F) c δ := by
  rw [Finset.sdiff_empty, duties_bar]; rfl
theorem rest_x (c : Dev nD) (x : Bool × Tr) : bigSep ((Rd X).duties (xCell c x) 0 \ ∅) (fun d => (Rd X).payload (xCell c x) 0 d) = xPay X c x := by
  rw [Finset.sdiff_empty, duties_x, bigSep_singleton, payload_x]

end Sched

/-! ## Levels and what is owed -/

/-- A transfer's position in the program's order of waits. -/
def rk : Tr → ℕ
  | (0, g, k) => match k with
    | 0 => 4 * g.val | 1 => 4 * g.val + 1 | 3 => 4 * g.val + 2 | 4 => 4 * g.val + 3
    | 2 => 8 + 18 * g.val | 5 => 9 + 18 * g.val
  | (1, g, k) => match k with
    | 0 => 10 + 18 * g.val | 1 => 11 + 18 * g.val | 3 => 12 + 18 * g.val | 4 => 13 + 18 * g.val
    | 2 => 14 + 18 * g.val | 5 => 15 + 18 * g.val
  | (2, g, k) => 16 + 18 * g.val + k.val
  | (3, g, k) => match k with
    | 4 => 44 + 2 * g.val | 5 => 45 + 2 * g.val
    | k => 22 + 18 * g.val + k.val

def L (g : GSem nD τ sig) : Finset Unit := if g.1.2 = .tc then {()} else ∅
/-- Barrier cells at 1, the receive cells above in program order, everything else at 0. -/
def lvS : SemLoc sig → ℕ
  | .reg s => if s = barS then 1 else 0
  | .dma q => match dec q with
    | some (true, t) => 2 + rk t
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by dsimp only [lv, lvS]; rw [if_pos rfl]
theorem lv_s (c : Dev nD) (ph g k) : lv (sCell c ph g k) () = 0 := by dsimp only [lv, lvS]; rw [dec_sS]
theorem lv_r (c : Dev nD) (ph g k) : lv (rCell c ph g k) () = 2 + rk (ph, g, k) := by dsimp only [lv, lvS]; rw [dec_sR]

/-- What device `c` owes for transfers yet to be started. -/
def rem (c : Dev nD) : List Tr → CellTallies nD τ sig Unit
  | [] => 0
  | i :: l => rem c l + tallyAt (rCell (nb (dir i.1 i.2.2) c) i.1 i.2.1 i.2.2) () (nn i.1 i.2.2)

theorem rem_pos {c : Dev nD} {l : List Tr} {g : GSem nD τ sig} {u : Unit} (h : 0 < rem c l g u) :
    ∃ i ∈ l, g = rCell (nb (dir i.1 i.2.2) c) i.1 i.2.1 i.2.2 := by
  induction l with
  | nil => exact absurd h (Nat.lt_irrefl 0)
  | cons i l ih =>
    rw [rem, Pi.add_apply, Finsupp.add_apply, tallyAt_apply] at h
    by_cases e : g = rCell (nb (dir i.1 i.2.2) c) i.1 i.2.1 i.2.2 ∧ u = ()
    · exact ⟨i, List.mem_cons_self, e.1⟩
    · rw [if_neg e, Nat.add_zero] at h
      obtain ⟨j, hj, e⟩ := ih h
      exact ⟨j, List.mem_cons_of_mem _ hj, e⟩

/-- A device may wait on a cell of its own whose level is under every level it owes at. -/
theorem mayWait_of (c : Dev nD) (sm : SemLoc sig) (n : ℕ) (O : CellTallies nD τ sig Unit) (hn : lv ((c : Thread nD τ), sm) () ≤ n)
    (hO : ∀ g u, 0 < O g u → g.1.2 = .tc ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hn)
    (fun g u hg => (hO g u hg).2)

theorem mayWait_rem (c : Dev nD) (sm : SemLoc sig) (n : ℕ) (l : List Tr) (hn : lv ((c : Thread nD τ), sm) () ≤ n + 1)
    (hl : ∀ i ∈ l, n ≤ rk i) : (levAts L lv : sProp 𝕄) ⊢ MayWait (c : Thread nD τ) sm () (rem c l) :=
  mayWait_of c sm (n + 1) _ hn fun g u hg => by
    obtain ⟨i, hi, rfl⟩ := rem_pos hg
    exact ⟨rfl, by rw [lv_r]; have := hl i hi; show n + 1 < 2 + rk i; omega⟩

/-- The transfers in the order in which they are started. -/
def ordA (g : Fin 2) : List Tr := [(0, g, 0), (0, g, 1), (0, g, 3), (0, g, 4)]
def ordH (g : Fin 2) : List Tr :=
  [(0, g, 2), (0, g, 5), (1, g, 0), (1, g, 1), (1, g, 3), (1, g, 4), (1, g, 2), (1, g, 5),
    (2, g, 0), (2, g, 1), (2, g, 2), (2, g, 3), (2, g, 4), (2, g, 5), (3, g, 0), (3, g, 1), (3, g, 2), (3, g, 3)]
def ordC (g : Fin 2) : List Tr := [(3, g, 4), (3, g, 5)]
def ord : List Tr := ordA 0 ++ (ordA 1 ++ (ordH 0 ++ (ordH 1 ++ (ordC 0 ++ ordC 1))))

/-- What is owed to the barrier cells of the neighbours, the last to be paid first. -/
def O₁ (c : Dev nD) : CellTallies nD τ sig Unit := rem c ord + tallyAt (barCell (nb 3 c)) () 1
def O₂ (c : Dev nD) : CellTallies nD τ sig Unit := O₁ c + tallyAt (barCell (nb 2 c)) () 1
def O₃ (c : Dev nD) : CellTallies nD τ sig Unit := O₂ c + tallyAt (barCell (nb 1 c)) () 1
/-- What device `c` owes at launch. -/
def O₀ (c : Dev nD) : CellTallies nD τ sig Unit := O₃ c + tallyAt (barCell (nb 0 c)) () 1

theorem O₀_pos {c : Dev nD} {g : GSem nD τ sig} {u : Unit} (h : 0 < O₀ c g u) : g.1.2 = .tc ∧ 0 < lv g () := by
  unfold O₀ O₃ O₂ O₁ at h
  rw [Pi.add_apply, Finsupp.add_apply, Pi.add_apply, Finsupp.add_apply, Pi.add_apply, Finsupp.add_apply, Pi.add_apply, Finsupp.add_apply,
    tallyAt_apply, tallyAt_apply, tallyAt_apply, tallyAt_apply] at h
  cases u
  by_cases e0 : g = barCell (nb 0 c) ∧ () = ()
  · rw [e0.1, lv_bar]; exact ⟨rfl, Nat.one_pos⟩
  by_cases e1 : g = barCell (nb 1 c) ∧ () = ()
  · rw [e1.1, lv_bar]; exact ⟨rfl, Nat.one_pos⟩
  by_cases e2 : g = barCell (nb 2 c) ∧ () = ()
  · rw [e2.1, lv_bar]; exact ⟨rfl, Nat.one_pos⟩
  by_cases e3 : g = barCell (nb 3 c) ∧ () = ()
  · rw [e3.1, lv_bar]; exact ⟨rfl, Nat.one_pos⟩
  rw [if_neg e0, if_neg e1, if_neg e2, if_neg e3] at h
  obtain ⟨i, hi, rfl⟩ := rem_pos (c := c) (l := ord) (g := g) (u := ()) (by simpa using h)
  exact ⟨rfl, by rw [lv_r]; omega⟩

end Cert.ArProof
-- ==== Proof.Rules.lean ====
/-
The rules by which a device's program runs: starting a transfer, waiting for one to land, waiting for one to leave,
and the loads and stores of the slices the program uses. Each is stated once for every transfer or slice.
-/
module

public import proofs.«01_k».proof.Proof.Common

@[expose] public section

set_option backward.proofsInPublic true
set_option maxRecDepth 100000

noncomputable section

namespace Cert.ArProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A device's program runs to `Q`. -/
abbrev WP (c : Dev nD) (P : PG F) (Q : PUnit → sProp 𝕄) : sProp 𝕄 :=
  wp frame (wpE (defs₀ (F := F)) 𝒱₀ (c : Thread nD τ) none) Set.univ P Q

/-- What device `c` owes, whatever it has waited for. -/
def ow (c : Dev nD) (O : CellTallies nD τ sig Unit) : sProp 𝕄 := iprop(∃ W, owes (c : Thread nD τ) O W)

/-- What a device holds to start a transfer: the place it lands, the two duties and its place at the send cell. -/
def ST (c : Dev nD) (ph : Fin 4) (g : Fin 2) (k : Fin 6) : sProp 𝕄 :=
  iprop(any (F := F) (nb (dir ph k) c) (lnd (nb (dir ph k) c) ph g k) ∗ dutyTok ER (sCell c ph g k) 0 (0 : Fin 4)
    ∗ dutyTok ER (rCell (nb (dir ph k) c) ph g k) 0 (0 : Fin 4) ∗ atPos ER (sCell c ph g k) 0 ∅ 0)
/-- What it holds once the transfer is started. -/
def SC (c : Dev nD) (ph : Fin 4) (g : Fin 2) (k : Fin 6) : sProp 𝕄 :=
  iprop(atPos ER (sCell c ph g k) 0 ∅ 0 ∗ cred (tallyAt (sCell c ph g k) () (nn ph k)))
/-- What it holds to wait for a transfer to land. -/
def RW (c : Dev nD) (ph : Fin 4) (g : Fin 2) (k : Fin 6) : sProp 𝕄 :=
  iprop(atPos ER (rCell c ph g k) 0 ∅ 0 ∗ cred (tallyAt (rCell c ph g k) () (nn ph k)))
/-- A finished semaphore. -/
def ZS (c : Dev nD) (ph : Fin 4) (g : Fin 2) (k : Fin 6) : sProp 𝕄 := semVal (sCell c ph g k) 0
def ZR (c : Dev nD) (ph : Fin 4) (g : Fin 2) (k : Fin 6) : sProp 𝕄 := semVal (rCell c ph g k) 0

section
variable (X : Dev nD → Vec F S2048x1024 .f32) (K : Dev nD × CI → ℕ)

/-- What a transfer takes along and hands back to its sender. -/
def SP (c : Dev nD) (ph : Fin 4) (g : Fin 2) (k : Fin 6) : sProp 𝕄 := own c (src c ph g k) (shr ph k) (VS X c ph g k)
/-- What has landed. -/
def LP (c : Dev nD) (ph : Fin 4) (g : Fin 2) (k : Fin 6) : sProp 𝕄 := own c (lnd c ph g k) fullShare (LV X c ph g k)

/-- What every device knows: the cells' invariants, that every cell is at its first round, and the levels. -/
def ctx : sProp 𝕄 :=
  iprop((bigSep Finset.univ fun ck : Dev nD × CI => cellInv ER (Rd X) (K ck) (kcell ck))
    ∗ (bigSep Finset.univ fun ck : Dev nD × CI => reached ER (kcell ck) 0) ∗ levAts L lv)

instance ctx_persistent : BI.Persistent (ctx X K) := by unfold ctx; infer_instance

omit [FloatOps F] in
/-- One conjunct of a separating conjunction over a type. -/
theorem bigSep_take {I : Type} [Fintype I] [DecidableEq I] {Φ : I → sProp 𝕄} (i : I) : (bigSep Finset.univ Φ : sProp 𝕄) ⊢ Φ i :=
  bigSep_elim (Finset.mem_univ i)

theorem ctx_inv (ck : Dev nD × CI) : ctx X K ⊢ cellInv ER (Rd X) (K ck) (kcell ck) := by
  unfold ctx
  iintro ⟨H, -, -⟩
  iapply (bigSep_take (Φ := fun ck : Dev nD × CI => cellInv ER (Rd X) (K ck) (kcell ck)) ck) $$ H
theorem ctx_reached (ck : Dev nD × CI) : ctx X K ⊢ (reached ER (kcell ck) 0 : sProp 𝕄) := by
  unfold ctx
  iintro ⟨-, H, -⟩
  iapply (bigSep_take (Φ := fun ck : Dev nD × CI => (reached ER (kcell ck) 0 : sProp 𝕄)) ck) $$ H
theorem ctx_lev : ctx X K ⊢ (levAts L lv : sProp 𝕄) := by
  unfold ctx
  iintro ⟨-, -, H⟩
  iexact H

theorem gath2 : ∀ (c : Dev nD) (k : Fin 6), c.val % 4 = (nb (dir 2 k) c).val % 4
    ∧ (c.val / 4 + wn (sw k)) % 4 = ((nb (dir 2 k) c).val / 4 + wn (lw k)) % 4 ∧ sh k = lh k := by decide +kernel
theorem gath3 : ∀ (c : Dev nD) (k : Fin 6), (c.val + wn (sw k)) % 4 = ((nb (dir 3 k) c).val + wn (lw k)) % 4 ∧ sh k = lh k := by
  decide +kernel

/-- Slices at the same place read the same. -/
theorem rd_congr {s : Shape} {α : Type} (f : s.Idx → α) {off off' size : Fin s.rank → ℕ} (h : off = off') (p : ∀ a, off a + size a ≤ s.size a)
    (p' : ∀ a, off' a + size a ≤ s.size a) :
    (fun j : (Rect.unit off size p).shape.Idx => f ((Rect.unit off size p).emb j)) = fun j => f ((Rect.unit off' size p').emb j) := by
  subst h; rfl
theorem qread_congr {c c' : Dev nD} {w w' : Fin 5} {g h h' : Fin 2} (e₁ : c.val % 4 = c'.val % 4)
    (e : (c.val / 4 + wn w) % 4 = (c'.val / 4 + wn w') % 4) (eh : h = h') (f : Vec F S2048x1024 .f32) :
    ((qS c w g h).view.read (Elt F) f : Vec F S32x1024 .f32) = (qS c' w' g h').view.read (Elt F) f := by
  subst eh
  exact rd_congr (s := S2048x1024) f (by rw [off32_eq, off32_eq, e₁, e]) (inb32 c w g h) (inb32 c' w' g h)
theorem oread_congr {c c' : Dev nD} {w w' : Fin 5} {g h h' : Fin 2} (e : (c.val + wn w) % 4 = (c'.val + wn w') % 4) (eh : h = h')
    (f : Vec F S2048x1024 .f32) :
    ((oS c w g h).view.read (Elt F) f : Vec F S128x1024 .f32) = (oS c' w' g h').view.read (Elt F) f := by
  subst eh
  exact rd_congr (s := S2048x1024) f (by rw [off128_eq, off128_eq, e]) (inb128 c w g h) (inb128 c' w' g h)

/-- What a transfer carries is what lands. -/
theorem VS_LV (c : Dev nD) (ph : Fin 4) (g : Fin 2) (k : Fin 6) : VS X c ph g k = LV X (nb (dir ph k) c) ph g k := by
  match ph with
  | 0 => show VA X c g k = VA X (snd 0 k (nb (dir 0 k) c)) g k; rw [snd_nb]
  | 1 => show VB X c g k = VB X (snd 1 k (nb (dir 1 k) c)) g k; rw [snd_nb]
  | 2 => exact qread_congr (gath2 c k).1 (gath2 c k).2.1 (gath2 c k).2.2 _
  | 3 => exact oread_congr (gath3 c k).1 (gath3 c k).2 _

theorem duties_s (c : Dev nD) (ph g k) : (Rd X).duties (sCell c ph g k) 0 = {0} := duties_x X c (false, ph, g, k)
theorem duties_r (c : Dev nD) (ph g k) : (Rd X).duties (rCell c ph g k) 0 = {0} := duties_x X c (true, ph, g, k)
theorem payload_s (c : Dev nD) (ph g k) : (Rd X).payload (sCell c ph g k) 0 0 = own c (src c ph g k) (shr ph k) (VS X c ph g k) :=
  payload_x X c (false, ph, g, k) 0
theorem payload_r (c : Dev nD) (ph g k) : (Rd X).payload (rCell c ph g k) 0 0 = own c (lnd c ph g k) fullShare (LV X c ph g k) :=
  payload_x X c (true, ph, g, k) 0
theorem inv_s (c : Dev nD) (ph g k) : ctx X K ⊢ cellInv ER (Rd X) (K (c, .inr (false, ph, g, k))) (sCell c ph g k) := ctx_inv X K (c, .inr (false, ph, g, k))
theorem inv_r (c : Dev nD) (ph g k) : ctx X K ⊢ cellInv ER (Rd X) (K (c, .inr (true, ph, g, k))) (rCell c ph g k) := ctx_inv X K (c, .inr (true, ph, g, k))
theorem reached_s (c : Dev nD) (ph g k) : ctx X K ⊢ (reached ER (sCell c ph g k) 0 : sProp 𝕄) := ctx_reached X K (c, .inr (false, ph, g, k))
theorem reached_r (c : Dev nD) (ph g k) : ctx X K ⊢ (reached ER (rCell c ph g k) 0 : sProp 𝕄) := ctx_reached X K (c, .inr (true, ph, g, k))

/-- Starting a transfer. -/
theorem wp_start (c : Dev nD) (ph : Fin 4) (g : Fin 2) (k : Fin 6) (l : List Tr) (P : PG F) (Q : PUnit → sProp 𝕄) :
    ctx X K ⊢ iprop(SP X c ph g k -∗ ST c ph g k -∗ ow c (rem c ((ph, g, k) :: l))
      -∗ ((SC c ph g k ∗ ow c (rem c l)) -∗ WP c P Q) -∗ WP c (tstart c ph g k P) Q) := by
  unfold ST SP ow
  iintro #Hc Hs ⟨⟨%v, Hd⟩, Ht1, Ht2, Hp⟩ ⟨%W, HO⟩ Hk
  rw [← dst_eq c ph g k]
  unfold own owns
  icases Hs with ⟨%fs, %hfs, Hs⟩
  icases Hd with ⟨%fd, %hfd, Hd⟩
  ihave #HI1 := (inv_s X K c ph g k) $$ Hc
  ihave #HI2 := (inv_r X K (nb (dir ph k) c) ph g k) $$ Hc
  ihave #HR1 := (reached_s X K c ph g k) $$ Hc
  ihave #HR2 := (reached_r X K (nb (dir ph k) c) ph g k) $$ Hc
  unfold tstart
  iapply (Rounds.wp_send_pointsTo 𝒱₀ ER (Rd X) (c : Thread nD τ) none (κ₁ := K (c, .inr (false, ph, g, k))) (κ₂ := K (nb (dir ph k) c, .inr (true, ph, g, k)))
      (r₁ := 0) (r₂ := 0) (d₁ := (0 : Fin 4)) (d₂ := (0 : Fin 4)) (fd := fd)
      (by rw [duties_s]; exact Finset.mem_singleton_self _) (by rw [duties_r]; exact Finset.mem_singleton_self _)
      () () (nn ph k) (by exact credit_dst c ph g k) (by exact amount_x X c false ph g k 0) (by exact amount_x X (nb (dir ph k) c) true ph g k 0) (rem c l) rfl (W := W)
      (by
        rw [payload_s]
        rw [← hfs]; exact owns_intro _ _ _ _)
      (by
        rw [payload_r]
        rw [← dst_eq c ph g k, ← VS_LV, ← hfs]
        refine (owns_intro _ _ _ _).trans (Entails.of_eq ?_)
        rw [View.read_write_univ]))
    $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨HcS, HO⟩
  iapply Hk
  unfold SC
  isplitl [Hp HcS]
  · isplitl [Hp]; · iexact Hp
    iexact HcS
  iexists W; iexact HO

theorem mayWait_r (c : Dev nD) (ph : Fin 4) (g : Fin 2) (k : Fin 6) (l : List Tr) (hl : ∀ i ∈ l, rk (ph, g, k) + 1 ≤ rk i) :
    (levAts L lv : sProp 𝕄) ⊢ MayWait (c : Thread nD τ) (.dma (sR ph g k)) () (rem c l) :=
  have h : ∀ n : ℕ, 2 + n ≤ n + 1 + 1 := fun n => by omega
  mayWait_rem c (.dma (sR ph g k)) (rk (ph, g, k) + 1) l ((lv_r c ph g k).le.trans (h _)) hl

theorem ctx_mayWait (c : Dev nD) (ph : Fin 4) (g : Fin 2) (k : Fin 6) (l : List Tr) (hl : ∀ i ∈ l, rk (ph, g, k) + 1 ≤ rk i) :
    ctx X K ⊢ (MayWait (c : Thread nD τ) (.dma (sR ph g k)) () (rem c l) : sProp 𝕄) := by
  exact BIBase.Entails.trans (ctx_lev X K) (mayWait_r c ph g k l hl)

theorem rest_r (c : Dev nD) (ph : Fin 4) (g : Fin 2) (k : Fin 6) :
    bigSep ((Rd X).duties (rCell c ph g k) 0 \ ∅) (fun d => (Rd X).payload (rCell c ph g k) 0 d)
      = own c (lnd c ph g k) fullShare (LV X c ph g k) := rest_x X c (true, ph, g, k)
theorem rest_s (c : Dev nD) (ph : Fin 4) (g : Fin 2) (k : Fin 6) :
    bigSep ((Rd X).duties (sCell c ph g k) 0 \ ∅) (fun d => (Rd X).payload (sCell c ph g k) 0 d)
      = own c (src c ph g k) (shr ph k) (VS X c ph g k) := rest_x X c (false, ph, g, k)

/-- Waiting for a transfer to land. -/
theorem wp_waitR (c : Dev nD) (ph : Fin 4) (g : Fin 2) (k : Fin 6) (l : List Tr) (hl : ∀ i ∈ l, rk (ph, g, k) + 1 ≤ rk i) (P : PG F) (Q : PUnit → sProp 𝕄) :
    ctx X K ⊢ iprop(RW c ph g k -∗ ow c (rem c l)
      -∗ ((LP X c ph g k ∗ ZR c ph g k ∗ ow c (rem c l)) -∗ WP c P Q) -∗ WP c (twaitR c ph g k P) Q) := by
  unfold RW ow
  iintro #Hc ⟨Hp, Hcr⟩ ⟨%W, HO⟩ Hk
  ihave #HI := (inv_r X K c ph g k) $$ Hc
  unfold twaitR
  iapply (Rounds.wp_wait_rest_token 𝒱₀ ER (Rd X) (c : Thread nD τ) none (κ := K (c, .inr (true, ph, g, k)))
      (wpE_waitDma2_eq 𝒱₀ (c : Thread nD τ) none Set.univ) (Set.mem_univ _) () (O := rem c l) (W := W) (R := 0) (m := 0) (T := ∅)
      (by rw [Nat.zero_add]; exact (credit_dst c ph g k).trans (expect_x X c true ph g k).symm)) $$ [Hcr HO Hp]
  · isplitr; · iexact HI
    isplitl [Hcr]; · rw [credit_dst]; iexact Hcr
    isplitl [HO]; · iexact HO
    isplitr
    · iapply (ctx_mayWait X K c ph g k l hl) $$ Hc
    iexact Hp
  iintro ⟨HO, Hp, -, Hpay⟩
  ihave Hpay := (Entails.of_eq (rest_r X c ph g k)) $$ Hpay
  imod (Rounds.cell_close ER (Rd X) (Set.mem_univ (K (c, .inr (true, ph, g, k)))) (fun h => h) (R := 0 + 1) (duties_later X (rCell c ph g k))) $$ [Hp] with HZ
  · isplitr; · iexact HI
    iexact Hp
  iapply Hk
  unfold ZR LP
  isplitl [Hpay]; · iexact Hpay
  isplitl [HZ]; · iexact HZ
  iexists _; iexact HO

/-- Waiting for the device's own transfer to leave, nothing owed. -/
theorem wp_waitS (c : Dev nD) (ph : Fin 4) (g : Fin 2) (k : Fin 6) (P : PG F) (Q : PUnit → sProp 𝕄) :
    ctx X K ⊢ iprop(SC c ph g k -∗ ow c 0
      -∗ ((SP X c ph g k ∗ ZS c ph g k ∗ ow c 0) -∗ WP c P Q) -∗ WP c (twaitS c ph g k P) Q) := by
  unfold SC ow
  iintro #Hc ⟨Hp, Hcr⟩ ⟨%W, HO⟩ Hk
  ihave #HI := (inv_s X K c ph g k) $$ Hc
  unfold twaitS
  iapply (Rounds.wp_wait_rest_token 𝒱₀ ER (Rd X) (c : Thread nD τ) none (κ := K (c, .inr (false, ph, g, k)))
      (wpE_waitDma2_eq 𝒱₀ (c : Thread nD τ) none Set.univ) (Set.mem_univ _) () (O := 0) (W := W) (R := 0) (m := 0) (T := ∅)
      (by rw [Nat.zero_add]; exact (credit_src c ph g k).trans (expect_x X c false ph g k).symm)) $$ [Hcr HO Hp]
  · isplitr; · iexact HI
    isplitl [Hcr]; · rw [credit_src]; iexact Hcr
    isplitl [HO]; · iexact HO
    isplitr; · rw [MayWait_zero]; iempintro
    iexact Hp
  iintro ⟨HO, Hp, -, Hpay⟩
  ihave Hpay := (Entails.of_eq (rest_s X c ph g k)) $$ Hpay
  imod (Rounds.cell_close ER (Rd X) (Set.mem_univ (K (c, .inr (false, ph, g, k)))) (fun h => h) (R := 0 + 1) (duties_later X (sCell c ph g k))) $$ [Hp] with HZ
  · isplitr; · iexact HI
    iexact Hp
  iapply Hk
  unfold ZS SP
  isplitl [Hpay]; · iexact Hpay
  isplitl [HZ]; · iexact HZ
  iexists _; iexact HO

end

end Cert.ArProof
-- ==== Proof.Mem.lean ====
/-
Loads and stores of a buffer's slices, the slices owned by what they read.
-/
module

public import proofs.«01_k».proof.Proof.Rules
public import Idealize.ShloMosaic.Lib.Pipeline.Value

@[expose] public section

set_option backward.proofsInPublic true
set_option maxRecDepth 100000

noncomputable section

namespace Cert.ArProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable {s s' : Shape} (c : Dev nD) (M : Memref sig .tc .vmem s .f32) (r : Rect s) (hr : ∀ a, r.stride a = 1)

/-- A load of a slice owned through its squeeze. -/
theorem wp_ld_sq (hq : r.shape.Squeezes s') (hc : r.shape.ShapeCasts s') {hl : M.view.LoadsAt r.toLoadRect} {k : (r.shape.Idx → Elt F .f32) → PG F}
    {Q : PUnit → sProp 𝕄} {q : PosShare TreeShare} {v : Vec F s' .f32} :
    own c ((M.slice r hr).squeeze s' hq) q v
      ⊢ iprop((∀ u : Vec F r.shape .f32, ⌜shapeCast s' u hc = v⌝ -∗ own c ((M.slice r hr).squeeze s' hq) q v -∗ WP c (k u) Q)
        -∗ WP c (.op (.load M r.toLoadRect hl) k) Q) := by
  unfold own owns
  iintro ⟨%f, %hf, H⟩ Hk
  iapply (wp_load 𝒱₀ (c : Thread nD τ) none Set.univ (m := M) (r := r.toLoadRect)
    (by rw [Memref.set_view_squeeze]; exact (View.set_slice M.view r).ge)) $$ H
  iintro H
  iapply Hk $$ %(M.view.readAt (Elt F) r.toLoadRect f) %(by rw [← hf]; rfl)
  iexists f
  isplitr; · ipureintro; exact hf
  iexact H

/-- A store over a slice owned through its squeeze. -/
theorem wp_st_sq (hq : r.shape.Squeezes s') (hc : r.shape.ShapeCasts s') {w : r.shape.Idx → Elt F .f32} {hx : (M.access r).Stores Finset.univ}
    {hm : Finset.univ = Finset.univ ∨ ∀ a, (r.stride a = 1)} {P : PG F}
    {Q : PUnit → sProp 𝕄} {v : Vec F s' .f32} :
    own c ((M.slice r hr).squeeze s' hq) fullShare v
      ⊢ iprop((own c ((M.slice r hr).squeeze s' hq) fullShare (shapeCast s' w hc) -∗ WP c P Q)
        -∗ WP c (.op (.store M r w Finset.univ hx hm) fun _ => P) Q) := by
  unfold own owns
  iintro ⟨%f, %hf, H⟩ Hk
  iapply (wp_store 𝒱₀ (c : Thread nD τ) none Set.univ (m := M) (r := r) (Mk := Finset.univ)
    (by rw [Memref.set_view_squeeze]; exact (View.setOn_univ _).le)) $$ H
  iintro H
  iapply Hk
  iexists ((M.access r).write (Elt F) f w Finset.univ)
  isplitr
  · ipureintro
    refine (Memref.read_squeeze_slice M r hr hq hc _).trans ?_
    exact congrArg (fun u => shapeCast s' u hc) (View.read_write_univ _ _)
  iexact H

/-- A load of an owned slice. -/
theorem wp_ld_sl {hl : M.view.LoadsAt r.toLoadRect} {k : (r.shape.Idx → Elt F .f32) → PG F}
    {Q : PUnit → sProp 𝕄} {q : PosShare TreeShare} {v : Vec F r.shape .f32} :
    own c (M.slice r hr) q v
      ⊢ iprop((own c (M.slice r hr) q v -∗ WP c (k v) Q) -∗ WP c (.op (.load M r.toLoadRect hl) k) Q) := by
  unfold own owns
  iintro ⟨%f, %hf, H⟩ Hk
  iapply (wp_load 𝒱₀ (c : Thread nD τ) none Set.univ (m := M) (r := r.toLoadRect)
    (by exact (View.set_slice M.view r).ge)) $$ H
  iintro H
  rw [show M.view.readAt (Elt F) r.toLoadRect f = v from hf]
  iapply Hk
  iexists f
  isplitr; · ipureintro; exact hf
  iexact H

/-- A store over an owned slice. -/
theorem wp_st_sl {w : r.shape.Idx → Elt F .f32} {hx : (M.access r).Stores Finset.univ}
    {hm : Finset.univ = Finset.univ ∨ ∀ a, (r.stride a = 1)} {P : PG F}
    {Q : PUnit → sProp 𝕄} {v : Vec F r.shape .f32} :
    own c (M.slice r hr) fullShare v
      ⊢ iprop((own c (M.slice r hr) fullShare w -∗ WP c P Q)
        -∗ WP c (.op (.store M r w Finset.univ hx hm) fun _ => P) Q) := by
  unfold own owns
  iintro ⟨%f, %hf, H⟩ Hk
  iapply (wp_store 𝒱₀ (c : Thread nD τ) none Set.univ (m := M) (r := r) (Mk := Finset.univ)
    (by exact (View.setOn_univ _).le)) $$ H
  iintro H
  iapply Hk
  iexists ((M.access r).write (Elt F) f w Finset.univ)
  isplitr; · ipureintro; exact View.read_write_univ _ _
  iexact H

/-- A load of the whole of an owned memref. -/
theorem wp_ld_all {off : Fin s.rank → ℕ} (h0 : off = fun _ => 0) (inb : ∀ a, off a + s.size a ≤ s.size a)
    {hl : M.view.LoadsAt (Rect.unit off s.size inb).toLoadRect} {k : (s.Idx → Elt F .f32) → PG F}
    {Q : PUnit → sProp 𝕄} {q : PosShare TreeShare} {v : Vec F s .f32} :
    own c M q v
      ⊢ iprop((own c M q v -∗ WP c (k v) Q) -∗ WP c (.op (.load M (Rect.unit off s.size inb).toLoadRect hl) k) Q) := by
  unfold own owns
  iintro ⟨%f, %hf, H⟩ Hk
  iapply (wp_load 𝒱₀ (c : Thread nD τ) none Set.univ (m := M) (r := (Rect.unit off s.size inb).toLoadRect)
    (View.setOn_subset_set _ _)) $$ H
  iintro H
  rw [show M.view.readAt (Elt F) (Rect.unit off s.size inb).toLoadRect f = v by
    rw [← hf]; funext j
    show M.view.read (Elt F) f ((Rect.unit off s.size inb).emb j) = M.view.read (Elt F) f j
    refine congrArg _ (funext fun a => Fin.ext ?_)
    subst h0
    rw [Rect.emb_apply]
    show 0 + 1 * (j a).val = (j a).val
    omega]
  iapply Hk
  iexists f
  isplitr; · ipureintro; exact hf
  iexact H
end

theorem hz2 : (![0, 0] : Fin 2 → ℕ) = fun _ => 0 := funext fun a => by fin_cases a <;> rfl

section
variable (c : Dev nD)

/-- The kernel's loads and stores. -/
theorem wp_ldA {Q : PUnit → sProp 𝕄} {q : PosShare TreeShare} (k : Fin 6) (g : Fin 2) {K : Vec F S1x128x1024 .f32 → PG F} {v : Vec F S128x1024 .f32} :
    own c (aS k g) q v ⊢ iprop((∀ u : Vec F S1x128x1024 .f32, ⌜shapeCast S128x1024 u shapeCasts_S1x128x1024_S128x1024 = v⌝ -∗ own c (aS k g) q v -∗ WP c (K u) Q)
        -∗ WP c (ldA k g K) Q) :=
  wp_ld_sq c (aM k) (rA g) (fun _ => rfl) squeezes_S1x128x1024_S128x1024 shapeCasts_S1x128x1024_S128x1024
theorem wp_stA {Q : PUnit → sProp 𝕄} (k : Fin 6) (g : Fin 2) {P : PG F} {v : Vec F S128x1024 .f32} {w : FVec F S1x128x1024 .f32} :
    own c (aS k g) fullShare v ⊢ iprop((own c (aS k g) fullShare (shapeCast S128x1024 w shapeCasts_S1x128x1024_S128x1024) -∗ WP c P Q)
        -∗ WP c (stA k g w P) Q) :=
  wp_st_sq c (aM k) (rA g) (fun _ => rfl) squeezes_S1x128x1024_S128x1024 shapeCasts_S1x128x1024_S128x1024
theorem wp_ldB {Q : PUnit → sProp 𝕄} {q : PosShare TreeShare} (k : Fin 6) (g : Fin 2) {K : Vec F S1x32x1024 .f32 → PG F} {v : Vec F S32x1024 .f32} :
    own c (bS k g) q v ⊢ iprop((∀ u : Vec F S1x32x1024 .f32, ⌜shapeCast S32x1024 u shapeCasts_S1x32x1024_S32x1024 = v⌝ -∗ own c (bS k g) q v -∗ WP c (K u) Q)
        -∗ WP c (ldB k g K) Q) :=
  wp_ld_sq c (bM k) (rB g) (fun _ => rfl) squeezes_S1x32x1024_S32x1024 shapeCasts_S1x32x1024_S32x1024
theorem wp_stB {Q : PUnit → sProp 𝕄} (k : Fin 6) (g : Fin 2) {P : PG F} {v : Vec F S32x1024 .f32} {w : FVec F S1x32x1024 .f32} :
    own c (bS k g) fullShare v ⊢ iprop((own c (bS k g) fullShare (shapeCast S32x1024 w shapeCasts_S1x32x1024_S32x1024) -∗ WP c P Q)
        -∗ WP c (stB k g w P) Q) :=
  wp_st_sq c (bM k) (rB g) (fun _ => rfl) squeezes_S1x32x1024_S32x1024 shapeCasts_S1x32x1024_S32x1024
theorem wp_ldX {Q : PUnit → sProp 𝕄} {q : PosShare TreeShare} (w : Fin 5) (g h : Fin 2) {K : Vec F S128x1024 .f32 → PG F} {v : Vec F S128x1024 .f32} :
    own c (xS c w g h) q v ⊢ iprop((own c (xS c w g h) q v -∗ WP c (K v) Q) -∗ WP c (ldX c w g h K) Q) :=
  wp_ld_all c (xS c w g h) hz2 _
theorem wp_ldP {Q : PUnit → sProp 𝕄} {q : PosShare TreeShare} (w : Fin 5) (g h : Fin 2) {K : Vec F S32x1024 .f32 → PG F} {v : Vec F S32x1024 .f32} :
    own c (pS c w g h) q v ⊢ iprop((own c (pS c w g h) q v -∗ WP c (K v) Q) -∗ WP c (ldP c w g h K) Q) :=
  wp_ld_all c (pS c w g h) hz2 _

/-- 128 rows of the partial sums, as they are stored. -/
def hS (g h : Fin 2) : Memref sig .tc .vmem S1x128x1024 .f32 := pM.slice (rH g h) (fun _ => rfl)

theorem wp_ldH {Q : PUnit → sProp 𝕄} {q : PosShare TreeShare} (g h : Fin 2) {K : Vec F S1x128x1024 .f32 → PG F} {v : Vec F S1x128x1024 .f32} :
    own c (hS g h) q v ⊢ iprop((own c (hS g h) q v -∗ WP c (K v) Q) -∗ WP c (ldH g h K) Q) :=
  wp_ld_sl c pM (rH g h) (fun _ => rfl)
theorem wp_stH {Q : PUnit → sProp 𝕄} (g h : Fin 2) {P : PG F} {v : Vec F S1x128x1024 .f32} {w : FVec F S1x128x1024 .f32} :
    own c (hS g h) fullShare v ⊢ iprop((own c (hS g h) fullShare w -∗ WP c P Q) -∗ WP c (stH g h w P) Q) :=
  wp_st_sl c pM (rH g h) (fun _ => rfl)

theorem rO_slice (g h : Fin 2) : oM.slice (rO c g h) (fun _ => rfl) = qS c 2 g h := by
  unfold qS; exact Memref.slice_unit_congr _ (offO_eq c g h) _ _ _ _
theorem wp_ldO {Q : PUnit → sProp 𝕄} {q : PosShare TreeShare} (g h : Fin 2) {K : Vec F S32x1024 .f32 → PG F} {v : Vec F S32x1024 .f32} :
    own c (qS c 2 g h) q v ⊢ iprop((own c (qS c 2 g h) q v -∗ WP c (K v) Q) -∗ WP c (ldO c g h K) Q) := by
  rw [← rO_slice]; exact wp_ld_sl c oM (rO c g h) (fun _ => rfl)
theorem wp_stO {Q : PUnit → sProp 𝕄} (g h : Fin 2) {P : PG F} {v : Vec F S32x1024 .f32} {w : FVec F S32x1024 .f32} :
    own c (qS c 2 g h) fullShare v ⊢ iprop((own c (qS c 2 g h) fullShare w -∗ WP c P Q) -∗ WP c (stO c g h w P) Q) := by
  rw [← rO_slice]; exact wp_st_sl c oM (rO c g h) (fun _ => rfl)

end

/-! ## The sums -/

theorem cast_sum2A {v : Vec F S1x128x1024 .f32} {x y : Vec F S128x1024 .f32} (h : shapeCast S128x1024 v shapeCasts_S1x128x1024_S128x1024 = y) :
    shapeCast S128x1024 (sum2A v x) shapeCasts_S1x128x1024_S128x1024 = addf (y : FVec F S128x1024 .f32) x := by
  unfold sum2A; rw [shapeCast_shapeCast, h, shapeCast_self]
theorem cast_sum3A {v w : Vec F S1x128x1024 .f32} {x y z : Vec F S128x1024 .f32} (h : shapeCast S128x1024 v shapeCasts_S1x128x1024_S128x1024 = y)
    (h' : shapeCast S128x1024 w shapeCasts_S1x128x1024_S128x1024 = z) :
    sum3A v w x = shapeCast S1x128x1024 (addf (addf (y : FVec F S128x1024 .f32) z) x) shapeCasts_S128x1024_S1x128x1024 := by
  unfold sum3A; rw [h, h', shapeCast_self]
theorem cast_sum2B {v : Vec F S1x32x1024 .f32} {x y : Vec F S32x1024 .f32} (h : shapeCast S32x1024 v shapeCasts_S1x32x1024_S32x1024 = y) :
    shapeCast S32x1024 (sum2B v x) shapeCasts_S1x32x1024_S32x1024 = addf (y : FVec F S32x1024 .f32) x := by
  unfold sum2B; rw [shapeCast_shapeCast, h]
theorem cast_sum3B {v w : Vec F S1x32x1024 .f32} {x y z : Vec F S32x1024 .f32} (h : shapeCast S32x1024 v shapeCasts_S1x32x1024_S32x1024 = y)
    (h' : shapeCast S32x1024 w shapeCasts_S1x32x1024_S32x1024 = z) :
    sum3B v w x = addf (addf (y : FVec F S32x1024 .f32) z) x := by
  unfold sum3B; rw [h, h']

end Cert.ArProof
-- ==== Proof.Phases.lean ====
/-
The phases of a device's program, each from what it needs to what it leaves: the transfers of a sum, the two sums, the
two gathers and the final waits.
-/
module

public import proofs.«01_k».proof.Proof.Mem

@[expose] public section

set_option backward.proofsInPublic true
set_option maxRecDepth 100000

noncomputable section

namespace Cert.ArProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A list of transfers all from a position on. -/
abbrev Up (n : ℕ) (l : List Tr) : Prop := ∀ i ∈ l, n ≤ rk i

theorem Up.nil (n : ℕ) : Up n [] := fun i hi => absurd hi List.not_mem_nil
theorem Up.cons {n : ℕ} {i : Tr} {l : List Tr} (h : n ≤ rk i) (hl : Up n l) : Up n (i :: l) := fun j hj => by
  rcases List.mem_cons.mp hj with rfl | hj
  · exact h
  · exact hl j hj
theorem Up.mono {n n' : ℕ} {l : List Tr} (hl : Up n l) (h : n' ≤ n) : Up n' l := fun j hj => h.trans (hl j hj)

/-- Something for each of the six transfers of a phase and a half. -/
def b6 (Φ : Fin 6 → sProp 𝕄) : sProp 𝕄 := iprop(Φ 0 ∗ Φ 1 ∗ Φ 2 ∗ Φ 3 ∗ Φ 4 ∗ Φ 5)

theorem b6_eq (Φ : Fin 6 → sProp 𝕄) : bigSep Finset.univ Φ = b6 Φ := by
  rw [bigSep_univ_eq_bigSepL [0, 1, 2, 3, 4, 5] (by decide) (by decide)]
  simp only [bigSepL_cons_cons, bigSepL_singleton]
  rfl

section
variable (X : Dev nD → Vec F S2048x1024 .f32) (K : Dev nD × CI → ℕ) (c : Dev nD) (g : Fin 2)

theorem LP_A (k : Fin 6) : LP X c 0 g k = own c (aS k g) fullShare (VA X (snd 0 k c) g k) := rfl
theorem LP_B (k : Fin 6) : LP X c 1 g k = own c (bS k g) fullShare (VB X (snd 1 k c) g k) := rfl
theorem SP_A2 : own c (aS 0 g) fullShare (addf (VA X (snd 0 0 c) g 0 : FVec F S128x1024 .f32) (xV X c 1 g 0)) = SP X c 0 g 2 := rfl
theorem SP_A5 : own c (aS 3 g) fullShare (addf (VA X (snd 0 3 c) g 3 : FVec F S128x1024 .f32) (xV X c 3 g 1)) = SP X c 0 g 5 := rfl
theorem SP_B2 : own c (bS 0 g) fullShare (addf (VB X (snd 1 0 c) g 0 : FVec F S32x1024 .f32) (pV X c 1 g 0)) = SP X c 1 g 2 := rfl
theorem SP_B5 : own c (bS 3 g) fullShare (addf (VB X (snd 1 3 c) g 3 : FVec F S32x1024 .f32) (pV X c 3 g 1)) = SP X c 1 g 5 := rfl

/-- The slices of the input a device only reads. -/
def XL : sProp 𝕄 := iprop(own c (xS c 1 g 0) fullShare (xV X c 1 g 0) ∗ own c (xS c 3 g 1) fullShare (xV X c 3 g 1)
  ∗ own c (xS c 2 g 0) fullShare (xV X c 2 g 0) ∗ own c (xS c 2 g 1) fullShare (xV X c 2 g 1))
/-- The slices of the partial sums a device only reads. -/
def PL : sProp 𝕄 := iprop(own c (pS c 1 g 0) fullShare (pV X c 1 g 0) ∗ own c (pS c 3 g 1) fullShare (pV X c 3 g 1)
  ∗ own c (pS c 2 g 0) fullShare (pV X c 2 g 0) ∗ own c (pS c 2 g 1) fullShare (pV X c 2 g 1))

/-- The partial sums of a half, stored. -/
def PH : sProp 𝕄 := iprop(own c (hS g 0) fullShare (shapeCast S1x128x1024 (PRv X c g 0) shapeCasts_S128x1024_S1x128x1024)
  ∗ own c (hS g 1) fullShare (shapeCast S1x128x1024 (PRv X c g 1) shapeCasts_S128x1024_S1x128x1024))
/-- The full sums of a half, stored. -/
def QH : sProp 𝕄 := iprop(own c (qS c 2 g 0) fullShare (Qv X c g 0) ∗ own c (qS c 2 g 1) fullShare (Qv X c g 1))

/-- The first transfers along the row. -/
theorem wp_startA (l : List Tr) (P : PG F) (Q : PUnit → sProp 𝕄) :
    ctx X K ⊢ iprop((SP X c 0 g 0 ∗ SP X c 0 g 1 ∗ SP X c 0 g 3 ∗ SP X c 0 g 4) -∗ (ST c 0 g 0 ∗ ST c 0 g 1 ∗ ST c 0 g 3 ∗ ST c 0 g 4)
      -∗ ow c (rem c ((0, g, 0) :: (0, g, 1) :: (0, g, 3) :: (0, g, 4) :: l))
      -∗ (((SC c 0 g 0 ∗ SC c 0 g 1 ∗ SC c 0 g 3 ∗ SC c 0 g 4) ∗ ow c (rem c l)) -∗ WP c P Q) -∗ WP c (startA c g P) Q) := by
  iintro #Hc ⟨HS0, HS1, HS3, HS4⟩ ⟨HT0, HT1, HT3, HT4⟩ HO Hk
  unfold startA
  iapply (wp_start X K c 0 g 0 _ _ _) $$ Hc HS0 HT0 HO
  iintro ⟨HC0, HO⟩
  iapply (wp_start X K c 0 g 1 _ _ _) $$ Hc HS1 HT1 HO
  iintro ⟨HC1, HO⟩
  iapply (wp_start X K c 0 g 3 _ _ _) $$ Hc HS3 HT3 HO
  iintro ⟨HC3, HO⟩
  iapply (wp_start X K c 0 g 4 _ _ _) $$ Hc HS4 HT4 HO
  iintro ⟨HC4, HO⟩
  iapply Hk
  iframe

theorem upA0 {l : List Tr} (hl : Up (10 + 18 * g.val) l) : Up (rk (0, g, 0) + 1) ((0, g, 2) :: (0, g, 5) :: l) :=
  Up.cons (by simp only [rk]; omega) (Up.cons (by simp only [rk]; omega) (hl.mono (by simp only [rk]; omega)))
theorem upA3 {l : List Tr} (hl : Up (10 + 18 * g.val) l) : Up (rk (0, g, 3) + 1) ((0, g, 5) :: l) :=
  Up.cons (by simp only [rk]; omega) (hl.mono (by simp only [rk]; omega))
theorem upA (k : Fin 6) {l : List Tr} (hl : Up (10 + 18 * g.val) l) : Up (rk (0, g, k) + 1) l :=
  hl.mono (by fin_cases k <;> simp only [rk, Fin.mk_one, Fin.zero_eta, Fin.reduceFinMk] <;> omega)

theorem upB0 {l : List Tr} (hl : Up (16 + 18 * g.val) l) : Up (rk (1, g, 0) + 1) ((1, g, 2) :: (1, g, 5) :: l) :=
  Up.cons (by simp only [rk]; omega) (Up.cons (by simp only [rk]; omega) (hl.mono (by simp only [rk]; omega)))
theorem upB3 {l : List Tr} (hl : Up (16 + 18 * g.val) l) : Up (rk (1, g, 3) + 1) ((1, g, 5) :: l) :=
  Up.cons (by simp only [rk]; omega) (hl.mono (by simp only [rk]; omega))
theorem upB (k : Fin 6) {l : List Tr} (hl : Up (16 + 18 * g.val) l) : Up (rk (1, g, k) + 1) l :=
  hl.mono (by fin_cases k <;> simp only [rk, Fin.mk_one, Fin.zero_eta, Fin.reduceFinMk] <;> omega)

/-- The sum along the row. -/
theorem wp_rowSum (l : List Tr) (hl : Up (10 + 18 * g.val) l) (P : PG F) (Q : PUnit → sProp 𝕄) :
    ctx X K ⊢ iprop(b6 (RW c 0 g) -∗ (ST c 0 g 2 ∗ ST c 0 g 5) -∗ XL X c g -∗ (any c (hS g 0) ∗ any c (hS g 1))
      -∗ ow c (rem c ((0, g, 2) :: (0, g, 5) :: l))
      -∗ ((b6 (ZR c 0 g) ∗ (SC c 0 g 2 ∗ SC c 0 g 5) ∗ XL X c g ∗ (LP X c 0 g 1 ∗ LP X c 0 g 2 ∗ LP X c 0 g 4 ∗ LP X c 0 g 5)
        ∗ PH X c g ∗ ow c (rem c l)) -∗ WP c P Q) -∗ WP c (rowSum c g P) Q) := by
  unfold b6 XL
  iintro #Hc ⟨HR0, HR1, HR2, HR3, HR4, HR5⟩ ⟨HT2, HT5⟩ ⟨HX10, HX31, HX20, HX21⟩ ⟨HW0, HW1⟩ HO Hk
  unfold rowSum
  iapply (wp_waitR X K c 0 g 0 _ (upA0 g hl) _ _) $$ Hc HR0 HO
  iintro ⟨HL0, HZ0, HO⟩
  ihave HL0 := (Entails.of_eq (LP_A X c g 0)) $$ HL0
  iapply (wp_ldA c 0 g) $$ HL0
  iintro %u0 %hu0 HL0
  iapply (wp_ldX c 1 g 0) $$ HX10
  iintro HX10
  iapply (wp_ldA c 0 g) $$ HL0
  iintro %u0' %hu0' HL0
  iapply (wp_stA c 0 g) $$ HL0
  iintro HL0
  rw [cast_sum2A hu0]
  ihave HS2 := (Entails.of_eq (SP_A2 X c g)) $$ HL0
  iapply (wp_start X K c 0 g 2 _ _ _) $$ Hc HS2 HT2 HO
  iintro ⟨HC2, HO⟩
  iapply (wp_waitR X K c 0 g 3 _ (upA3 g hl) _ _) $$ Hc HR3 HO
  iintro ⟨HL3, HZ3, HO⟩
  ihave HL3 := (Entails.of_eq (LP_A X c g 3)) $$ HL3
  iapply (wp_ldA c 3 g) $$ HL3
  iintro %u3 %hu3 HL3
  iapply (wp_ldX c 3 g 1) $$ HX31
  iintro HX31
  iapply (wp_ldA c 3 g) $$ HL3
  iintro %u3' %hu3' HL3
  iapply (wp_stA c 3 g) $$ HL3
  iintro HL3
  rw [cast_sum2A hu3]
  ihave HS5 := (Entails.of_eq (SP_A5 X c g)) $$ HL3
  iapply (wp_start X K c 0 g 5 _ _ _) $$ Hc HS5 HT5 HO
  iintro ⟨HC5, HO⟩
  iapply (wp_waitR X K c 0 g 1 _ (upA g 1 hl) _ _) $$ Hc HR1 HO
  iintro ⟨HL1, HZ1, HO⟩
  iapply (wp_waitR X K c 0 g 2 _ (upA g 2 hl) _ _) $$ Hc HR2 HO
  iintro ⟨HL2, HZ2, HO⟩
  ihave HL1 := (Entails.of_eq (LP_A X c g 1)) $$ HL1
  ihave HL2 := (Entails.of_eq (LP_A X c g 2)) $$ HL2
  iapply (wp_ldA c 2 g) $$ HL2
  iintro %u2 %hu2 HL2
  iapply (wp_ldA c 1 g) $$ HL1
  iintro %u1 %hu1 HL1
  iapply (wp_ldX c 2 g 0) $$ HX20
  iintro HX20
  icases HW0 with ⟨%w0, HW0⟩
  iapply (wp_ldH c g 0) $$ HW0
  iintro HW0
  iapply (wp_stH c g 0) $$ HW0
  iintro HW0
  rw [cast_sum3A hu2 hu1]
  iapply (wp_waitR X K c 0 g 4 _ (upA g 4 hl) _ _) $$ Hc HR4 HO
  iintro ⟨HL4, HZ4, HO⟩
  iapply (wp_waitR X K c 0 g 5 _ (upA g 5 hl) _ _) $$ Hc HR5 HO
  iintro ⟨HL5, HZ5, HO⟩
  ihave HL4 := (Entails.of_eq (LP_A X c g 4)) $$ HL4
  ihave HL5 := (Entails.of_eq (LP_A X c g 5)) $$ HL5
  iapply (wp_ldA c 5 g) $$ HL5
  iintro %u5 %hu5 HL5
  iapply (wp_ldA c 4 g) $$ HL4
  iintro %u4 %hu4 HL4
  iapply (wp_ldX c 2 g 1) $$ HX21
  iintro HX21
  icases HW1 with ⟨%w1, HW1⟩
  iapply (wp_ldH c g 1) $$ HW1
  iintro HW1
  iapply (wp_stH c g 1) $$ HW1
  iintro HW1
  rw [cast_sum3A hu5 hu4]
  iapply Hk
  rw [LP_A, LP_A, LP_A, LP_A]
  isplitl [HZ0 HZ1 HZ2 HZ3 HZ4 HZ5]; · iframe
  isplitl [HC2 HC5]; · iframe
  isplitl [HX10 HX31 HX20 HX21]; · iframe
  isplitl [HL1 HL2 HL4 HL5]; · iframe
  isplitl [HW0 HW1]
  · unfold PH
    isplitl [HW0]; · iexact HW0
    iexact HW1
  iexact HO

/-- The sum along the column. -/
theorem wp_colSum (l : List Tr) (hl : Up (16 + 18 * g.val) l) (P : PG F) (Q : PUnit → sProp 𝕄) :
    ctx X K ⊢ iprop((SP X c 1 g 0 ∗ SP X c 1 g 1 ∗ SP X c 1 g 3 ∗ SP X c 1 g 4) -∗ b6 (ST c 1 g) -∗ b6 (RW c 1 g) -∗ PL X c g
      -∗ (any c (qS c 2 g 0) ∗ any c (qS c 2 g 1))
      -∗ ow c (rem c ((1, g, 0) :: (1, g, 1) :: (1, g, 3) :: (1, g, 4) :: (1, g, 2) :: (1, g, 5) :: l))
      -∗ ((b6 (ZR c 1 g) ∗ b6 (SC c 1 g) ∗ PL X c g ∗ (LP X c 1 g 1 ∗ LP X c 1 g 2 ∗ LP X c 1 g 4 ∗ LP X c 1 g 5)
        ∗ QH X c g ∗ ow c (rem c l)) -∗ WP c P Q) -∗ WP c (colSum c g P) Q) := by
  unfold b6 PL
  iintro #Hc ⟨HS0, HS1, HS3, HS4⟩ ⟨HT0, HT1, HT2, HT3, HT4, HT5⟩ ⟨HR0, HR1, HR2, HR3, HR4, HR5⟩ ⟨HP10, HP31, HP20, HP21⟩ ⟨HW0, HW1⟩ HO Hk
  unfold colSum
  iapply (wp_start X K c 1 g 0 _ _ _) $$ Hc HS0 HT0 HO
  iintro ⟨HC0, HO⟩
  iapply (wp_start X K c 1 g 1 _ _ _) $$ Hc HS1 HT1 HO
  iintro ⟨HC1, HO⟩
  iapply (wp_start X K c 1 g 3 _ _ _) $$ Hc HS3 HT3 HO
  iintro ⟨HC3, HO⟩
  iapply (wp_start X K c 1 g 4 _ _ _) $$ Hc HS4 HT4 HO
  iintro ⟨HC4, HO⟩
  iapply (wp_waitR X K c 1 g 0 _ (upB0 g hl) _ _) $$ Hc HR0 HO
  iintro ⟨HL0, HZ0, HO⟩
  ihave HL0 := (Entails.of_eq (LP_B X c g 0)) $$ HL0
  iapply (wp_ldB c 0 g) $$ HL0
  iintro %u0 %hu0 HL0
  iapply (wp_ldP c 1 g 0) $$ HP10
  iintro HP10
  iapply (wp_ldB c 0 g) $$ HL0
  iintro %u0' %hu0' HL0
  iapply (wp_stB c 0 g) $$ HL0
  iintro HL0
  rw [cast_sum2B hu0]
  ihave HS2 := (Entails.of_eq (SP_B2 X c g)) $$ HL0
  iapply (wp_start X K c 1 g 2 _ _ _) $$ Hc HS2 HT2 HO
  iintro ⟨HC2, HO⟩
  iapply (wp_waitR X K c 1 g 3 _ (upB3 g hl) _ _) $$ Hc HR3 HO
  iintro ⟨HL3, HZ3, HO⟩
  ihave HL3 := (Entails.of_eq (LP_B X c g 3)) $$ HL3
  iapply (wp_ldB c 3 g) $$ HL3
  iintro %u3 %hu3 HL3
  iapply (wp_ldP c 3 g 1) $$ HP31
  iintro HP31
  iapply (wp_ldB c 3 g) $$ HL3
  iintro %u3' %hu3' HL3
  iapply (wp_stB c 3 g) $$ HL3
  iintro HL3
  rw [cast_sum2B hu3]
  ihave HS5 := (Entails.of_eq (SP_B5 X c g)) $$ HL3
  iapply (wp_start X K c 1 g 5 _ _ _) $$ Hc HS5 HT5 HO
  iintro ⟨HC5, HO⟩
  iapply (wp_waitR X K c 1 g 1 _ (upB g 1 hl) _ _) $$ Hc HR1 HO
  iintro ⟨HL1, HZ1, HO⟩
  iapply (wp_waitR X K c 1 g 2 _ (upB g 2 hl) _ _) $$ Hc HR2 HO
  iintro ⟨HL2, HZ2, HO⟩
  ihave HL1 := (Entails.of_eq (LP_B X c g 1)) $$ HL1
  ihave HL2 := (Entails.of_eq (LP_B X c g 2)) $$ HL2
  iapply (wp_ldB c 2 g) $$ HL2
  iintro %u2 %hu2 HL2
  iapply (wp_ldB c 1 g) $$ HL1
  iintro %u1 %hu1 HL1
  iapply (wp_ldP c 2 g 0) $$ HP20
  iintro HP20
  icases HW0 with ⟨%w0, HW0⟩
  iapply (wp_ldO c g 0) $$ HW0
  iintro HW0
  iapply (wp_stO c g 0) $$ HW0
  iintro HW0
  rw [cast_sum3B hu2 hu1]
  iapply (wp_waitR X K c 1 g 4 _ (upB g 4 hl) _ _) $$ Hc HR4 HO
  iintro ⟨HL4, HZ4, HO⟩
  iapply (wp_waitR X K c 1 g 5 _ (upB g 5 hl) _ _) $$ Hc HR5 HO
  iintro ⟨HL5, HZ5, HO⟩
  ihave HL4 := (Entails.of_eq (LP_B X c g 4)) $$ HL4
  ihave HL5 := (Entails.of_eq (LP_B X c g 5)) $$ HL5
  iapply (wp_ldB c 5 g) $$ HL5
  iintro %u5 %hu5 HL5
  iapply (wp_ldB c 4 g) $$ HL4
  iintro %u4 %hu4 HL4
  iapply (wp_ldP c 2 g 1) $$ HP21
  iintro HP21
  icases HW1 with ⟨%w1, HW1⟩
  iapply (wp_ldO c g 1) $$ HW1
  iintro HW1
  iapply (wp_stO c g 1) $$ HW1
  iintro HW1
  rw [cast_sum3B hu5 hu4]
  iapply Hk
  rw [LP_B, LP_B, LP_B, LP_B]
  isplitl [HZ0 HZ1 HZ2 HZ3 HZ4 HZ5]; · iframe
  isplitl [HC0 HC1 HC2 HC3 HC4 HC5]; · iframe
  isplitl [HP10 HP31 HP20 HP21]; · iframe
  isplitl [HL1 HL2 HL4 HL5]; · iframe
  isplitl [HW0 HW1]
  · unfold QH
    isplitl [HW0]; · iexact HW0
    iexact HW1
  iexact HO

/-- The first transfers of a gather. -/
theorem wp_startG (ph : Fin 4) (l : List Tr) (P : PG F) (Q : PUnit → sProp 𝕄) :
    ctx X K ⊢ iprop((SP X c ph g 0 ∗ SP X c ph g 1 ∗ SP X c ph g 2 ∗ SP X c ph g 3) -∗ (ST c ph g 0 ∗ ST c ph g 1 ∗ ST c ph g 2 ∗ ST c ph g 3)
      -∗ ow c (rem c ((ph, g, 0) :: (ph, g, 1) :: (ph, g, 2) :: (ph, g, 3) :: l))
      -∗ (((SC c ph g 0 ∗ SC c ph g 1 ∗ SC c ph g 2 ∗ SC c ph g 3) ∗ ow c (rem c l)) -∗ WP c P Q) -∗ WP c (startG c ph g P) Q) := by
  iintro #Hc ⟨HS0, HS1, HS2, HS3⟩ ⟨HT0, HT1, HT2, HT3⟩ HO Hk
  unfold startG
  iapply (wp_start X K c ph g 0 _ _ _) $$ Hc HS0 HT0 HO
  iintro ⟨HC0, HO⟩
  iapply (wp_start X K c ph g 1 _ _ _) $$ Hc HS1 HT1 HO
  iintro ⟨HC1, HO⟩
  iapply (wp_start X K c ph g 2 _ _ _) $$ Hc HS2 HT2 HO
  iintro ⟨HC2, HO⟩
  iapply (wp_start X K c ph g 3 _ _ _) $$ Hc HS3 HT3 HO
  iintro ⟨HC3, HO⟩
  iapply Hk
  iframe

/-- The rest of a gather: the two pieces that are sent on are split into what goes and what stays. -/
theorem wp_restG (ph : Fin 4) (l : List Tr) (R0 R2 : sProp 𝕄) (h0 : LP X c ph g 0 ⊢ iprop(SP X c ph g 4 ∗ R0)) (h2 : LP X c ph g 2 ⊢ iprop(SP X c ph g 5 ∗ R2))
    (hA : Up (rk (ph, g, 0) + 1) ((ph, g, 4) :: (ph, g, 5) :: l)) (hB : Up (rk (ph, g, 2) + 1) ((ph, g, 5) :: l))
    (hC : ∀ k, Up (rk (ph, g, k) + 1) l) (P : PG F) (Q : PUnit → sProp 𝕄) :
    ctx X K ⊢ iprop(b6 (RW c ph g) -∗ (ST c ph g 4 ∗ ST c ph g 5) -∗ ow c (rem c ((ph, g, 4) :: (ph, g, 5) :: l))
      -∗ ((b6 (ZR c ph g) ∗ (SC c ph g 4 ∗ SC c ph g 5) ∗ (R0 ∗ R2 ∗ LP X c ph g 1 ∗ LP X c ph g 3 ∗ LP X c ph g 4 ∗ LP X c ph g 5)
        ∗ ow c (rem c l)) -∗ WP c P Q) -∗ WP c (restG c ph g P) Q) := by
  unfold b6
  iintro #Hc ⟨HR0, HR1, HR2, HR3, HR4, HR5⟩ ⟨HT4, HT5⟩ HO Hk
  unfold restG
  iapply (wp_waitR X K c ph g 0 _ hA _ _) $$ Hc HR0 HO
  iintro ⟨HL0, HZ0, HO⟩
  ihave HL0 := h0 $$ HL0
  icases HL0 with ⟨HS4, HK0⟩
  iapply (wp_start X K c ph g 4 _ _ _) $$ Hc HS4 HT4 HO
  iintro ⟨HC4, HO⟩
  iapply (wp_waitR X K c ph g 2 _ hB _ _) $$ Hc HR2 HO
  iintro ⟨HL2, HZ2, HO⟩
  ihave HL2 := h2 $$ HL2
  icases HL2 with ⟨HS5, HK2⟩
  iapply (wp_start X K c ph g 5 _ _ _) $$ Hc HS5 HT5 HO
  iintro ⟨HC5, HO⟩
  iapply (wp_waitR X K c ph g 1 _ (hC 1) _ _) $$ Hc HR1 HO
  iintro ⟨HL1, HZ1, HO⟩
  iapply (wp_waitR X K c ph g 3 _ (hC 3) _ _) $$ Hc HR3 HO
  iintro ⟨HL3, HZ3, HO⟩
  iapply (wp_waitR X K c ph g 4 _ (hC 4) _ _) $$ Hc HR4 HO
  iintro ⟨HL4, HZ4, HO⟩
  iapply (wp_waitR X K c ph g 5 _ (hC 5) _ _) $$ Hc HR5 HO
  iintro ⟨HL5, HZ5, HO⟩
  iapply Hk
  isplitl [HZ0 HZ1 HZ2 HZ3 HZ4 HZ5]; · iframe
  isplitl [HC4 HC5]; · iframe
  isplitr [HO]; · iframe
  iexact HO

/-- The last waits for a phase's own transfers. -/
theorem wp_drainP (ph : Fin 4) (P : PG F) (Q : PUnit → sProp 𝕄) :
    ctx X K ⊢ iprop(b6 (SC c ph g) -∗ ow c 0 -∗ ((b6 (ZS c ph g) ∗ b6 (SP X c ph g) ∗ ow c 0) -∗ WP c P Q) -∗ WP c (drainP c ph g P) Q) := by
  unfold b6
  iintro #Hc ⟨HC0, HC1, HC2, HC3, HC4, HC5⟩ HO Hk
  unfold drainP
  iapply (wp_waitS X K c ph g 0 _ _) $$ Hc HC0 HO
  iintro ⟨HS0, HZ0, HO⟩
  iapply (wp_waitS X K c ph g 1 _ _) $$ Hc HC1 HO
  iintro ⟨HS1, HZ1, HO⟩
  iapply (wp_waitS X K c ph g 2 _ _) $$ Hc HC2 HO
  iintro ⟨HS2, HZ2, HO⟩
  iapply (wp_waitS X K c ph g 3 _ _) $$ Hc HC3 HO
  iintro ⟨HS3, HZ3, HO⟩
  iapply (wp_waitS X K c ph g 4 _ _) $$ Hc HC4 HO
  iintro ⟨HS4, HZ4, HO⟩
  iapply (wp_waitS X K c ph g 5 _ _) $$ Hc HC5 HO
  iintro ⟨HS5, HZ5, HO⟩
  iapply Hk
  isplitl [HZ0 HZ1 HZ2 HZ3 HZ4 HZ5]; · iframe
  isplitr [HO]; · iframe
  iexact HO

end

end Cert.ArProof
-- ==== Proof.Pieces.lean ====
/-
The pieces the buffers are cut into: the 128-row pieces of the input and of the output, the 32-row pieces of a half of
the partial sums and of a device's own block of the output, and the two halves of a landing buffer. Each cut is stated
once, of the elements, and holds at every share and every contents.
-/
module

public import proofs.«01_k».proof.Proof.Phases
public import Idealize.ShloMosaic.Lib.ValueLayout
public import Idealize.ShloMosaic.Lib.MemrefSat

@[expose] public section

set_option backward.proofsInPublic true
set_option maxRecDepth 100000

noncomputable section

namespace Cert.ArProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Eight pieces -/

/-- The relative block and the part of it of each of eight pieces: six that arrive in a gather, two of the device's own. -/
def w8 : Fin 8 → Fin 5
  | 0 => 0 | 1 => 3 | 2 => 4 | 3 => 1 | 4 => 1 | 5 => 3 | 6 => 2 | 7 => 2
def h8 : Fin 8 → Fin 2
  | 0 => 0 | 1 => 0 | 2 => 1 | 3 => 1 | 4 => 0 | 5 => 1 | 6 => 0 | 7 => 1

theorem w8_inj : ∀ (a : Fin 4) (n n' : Fin 8), (a.val + wn (w8 n)) % 4 = (a.val + wn (w8 n')) % 4 → (h8 n).val = (h8 n').val → n = n' := by
  decide +kernel
theorem w8_surj : ∀ (a j : Fin 4) (h : Fin 2), ∃ n : Fin 8, (a.val + wn (w8 n)) % 4 = j.val ∧ h8 n = h := by decide +kernel

theorem w8_inj' (a : ℕ) (n n' : Fin 8) (e : (a + wn (w8 n)) % 4 = (a + wn (w8 n')) % 4) (e' : (h8 n).val = (h8 n').val) : n = n' :=
  w8_inj ⟨a % 4, Nat.mod_lt _ (by decide)⟩ n n' (by show (a % 4 + _) % 4 = (a % 4 + _) % 4; omega) e'
theorem w8_surj' (a : ℕ) (j : ℕ) (h : ℕ) (hj : j < 4) (hh : h < 2) : ∃ n : Fin 8, (a + wn (w8 n)) % 4 = j ∧ (h8 n).val = h := by
  obtain ⟨n, e, e'⟩ := w8_surj ⟨a % 4, Nat.mod_lt _ (by decide)⟩ ⟨j, hj⟩ ⟨h, hh⟩
  exact ⟨n, by rw [← (show _ = j from e)]; show _ = (a % 4 + _) % 4; omega, congrArg Fin.val e'⟩

/-- Something for each of the eight pieces. -/
def b8 (Φ : Fin 5 → Fin 2 → sProp 𝕄) : sProp 𝕄 :=
  iprop(Φ 0 0 ∗ Φ 3 0 ∗ Φ 4 1 ∗ Φ 1 1 ∗ Φ 1 0 ∗ Φ 3 1 ∗ Φ 2 0 ∗ Φ 2 1)

theorem b8_eq (Φ : Fin 5 → Fin 2 → sProp 𝕄) : bigSep Finset.univ (fun n : Fin 8 => Φ (w8 n) (h8 n)) = b8 Φ := by
  rw [bigSep_univ_eq_bigSepL [0, 1, 2, 3, 4, 5, 6, 7] (by decide) (by decide)]
  simp only [bigSepL_cons_cons, bigSepL_singleton]
  rfl

/-- Something for both halves. -/
theorem b2_eq (Φ : Fin 2 → sProp 𝕄) : bigSep Finset.univ Φ = iprop(Φ 0 ∗ Φ 1) := by
  rw [bigSep_univ_eq_bigSepL [0, 1] (by decide) (by decide)]
  simp only [bigSepL_cons_cons, bigSepL_singleton]
  rfl

/-! ## The elements of the pieces -/

theorem mem_of_rect {s : Shape} {A : Finset s.Idx} {off size : Fin s.rank → ℕ} {inb} (e : A = (Rect.unit off size inb).set) (i : s.Idx) :
    i ∈ A ↔ ∀ a, off a ≤ i a ∧ (i a : ℕ) < off a + size a := by subst e; exact Rect.mem_set_unit

/-- The elements of 128 rows of the output, of 128 rows of the input, and of 32 rows of the output. -/
def oE (c : Dev nD) (w : Fin 5) (g h : Fin 2) : Finset S2048x1024.Idx := (oS c w g h).view.set
def xE (c : Dev nD) (w : Fin 5) (g h : Fin 2) : Finset S2048x1024.Idx := (xS c w g h).view.set
def qE (c : Dev nD) (w : Fin 5) (g h : Fin 2) : Finset S2048x1024.Idx := (qS c w g h).view.set
/-- The elements of 32 rows and of 128 rows of the partial sums. -/
def pE (c : Dev nD) (w : Fin 5) (g h : Fin 2) : Finset S2x256x1024.Idx := (pS c w g h).view.set
def hE (g h : Fin 2) : Finset S2x256x1024.Idx := (hS g h).view.set

theorem mem_oS (c : Dev nD) (w : Fin 5) (g h : Fin 2) (i : S2048x1024.Idx) :
    i ∈ oE c w g h ↔ 512 * ((c.val + wn w) % 4) + 256 * g.val + 128 * h.val ≤ (i 0).val
      ∧ (i 0).val < 512 * ((c.val + wn w) % 4) + 256 * g.val + 128 * h.val + 128 := by
  have e : oE c w g h = (Rect.unit (s := S2048x1024) (off128 c w g h) S128x1024.size (inb128 c w g h)).set := by
    unfold oE oS; exact View.set_slice_whole _ _
  rw [mem_of_rect e, off128_eq]
  refine ⟨fun h => h 0, fun h a => ?_⟩
  match a with
  | 0 => exact h
  | 1 => exact ⟨Nat.zero_le _, (i 1).isLt.trans_le (Nat.le_add_left _ _)⟩

theorem mem_xS (c : Dev nD) (w : Fin 5) (g h : Fin 2) (i : S2048x1024.Idx) :
    i ∈ xE c w g h ↔ 512 * ((c.val + wn w) % 4) + 256 * g.val + 128 * h.val ≤ (i 0).val
      ∧ (i 0).val < 512 * ((c.val + wn w) % 4) + 256 * g.val + 128 * h.val + 128 := by
  have e : xE c w g h = (Rect.unit (s := S2048x1024) (off128 c w g h) S128x1024.size (inb128 c w g h)).set := by
    unfold xE xS; exact View.set_slice_whole _ _
  rw [mem_of_rect e, off128_eq]
  refine ⟨fun h => h 0, fun h a => ?_⟩
  match a with
  | 0 => exact h
  | 1 => exact ⟨Nat.zero_le _, (i 1).isLt.trans_le (Nat.le_add_left _ _)⟩

theorem mem_qS (c : Dev nD) (w : Fin 5) (g h : Fin 2) (i : S2048x1024.Idx) :
    i ∈ qE c w g h ↔ 512 * (c.val % 4) + 256 * g.val + 64 * ((c.val / 4 + wn w) % 4) + 32 * h.val ≤ (i 0).val
      ∧ (i 0).val < 512 * (c.val % 4) + 256 * g.val + 64 * ((c.val / 4 + wn w) % 4) + 32 * h.val + 32 := by
  have e : qE c w g h = (Rect.unit (s := S2048x1024) (off32 c w g h) S32x1024.size (inb32 c w g h)).set := by
    unfold qE qS; exact View.set_slice_whole _ _
  rw [mem_of_rect e, off32_eq]
  refine ⟨fun h => h 0, fun h a => ?_⟩
  match a with
  | 0 => exact h
  | 1 => exact ⟨Nat.zero_le _, (i 1).isLt.trans_le (Nat.le_add_left _ _)⟩

theorem mem_pS (c : Dev nD) (w : Fin 5) (g h : Fin 2) (i : S2x256x1024.Idx) :
    i ∈ pE c w g h ↔ (i 0).val = g.val ∧ 64 * ((c.val / 4 + wn w) % 4) + 32 * h.val ≤ (i 1).val ∧ (i 1).val < 64 * ((c.val / 4 + wn w) % 4) + 32 * h.val + 32 := by
  have e : pE c w g h = (Rect.unit (s := S2x256x1024) (offP c w g h) S1x32x1024.size (inbP c w g h)).set := by
    unfold pE pS; exact (View.set_reshape _ _).trans (View.set_slice_whole _ _)
  rw [mem_of_rect e, offP_eq]
  refine ⟨fun h => ⟨?_, h 1⟩, fun h a => ?_⟩
  · have : g.val ≤ (i 0).val ∧ (i 0).val < g.val + 1 := h 0
    omega
  · match a with
    | 0 =>
      show g.val ≤ (i 0).val ∧ (i 0).val < g.val + 1
      omega
    | 1 => exact h.2
    | 2 => exact ⟨Nat.zero_le _, (i 2).isLt.trans_le (Nat.le_add_left _ _)⟩

theorem mem_hS (g h : Fin 2) (i : S2x256x1024.Idx) :
    i ∈ hE g h ↔ (i 0).val = g.val ∧ 128 * h.val ≤ (i 1).val ∧ (i 1).val < 128 * h.val + 128 := by
  have e : hE g h = (rH g h).set := by
    unfold hE hS; exact View.set_slice_whole _ _
  rw [mem_of_rect e]
  refine ⟨fun h => ⟨?_, h 1⟩, fun h a => ?_⟩
  · have : g.val ≤ (i 0).val ∧ (i 0).val < g.val + 1 := h 0
    omega
  · match a with
    | 0 =>
      show g.val ≤ (i 0).val ∧ (i 0).val < g.val + 1
      omega
    | 1 => exact h.2
    | 2 => exact ⟨Nat.zero_le _, (i 2).isLt.trans_le (Nat.le_add_left _ _)⟩

/-! ## Owning at what a buffer holds -/

/-- Owning a slice at what it reads of `f` is holding its elements at `f`. -/
theorem own_read (c : Dev nD) {s : Shape} (m : Memref sig .tc .vmem s .f32) (q : PosShare TreeShare) (f : m.view.ty.Contents (Elt F)) :
    (own c m q (m.view.read (Elt F) f) : sProp 𝕄) = (m.view.loc (c : Thread nD τ) ↦[m.view.set]{q} f) := by
  have h₁ : (own c m q (m.view.read (Elt F) f) : sProp 𝕄) ⊢ (m.view.loc (c : Thread nD τ) ↦[m.view.set]{q} f) := by
    unfold own owns
    iintro ⟨%f', %h, H⟩
    have e : (m.view.loc (c : Thread nD τ) ↦[m.view.set]{q} f' : sProp 𝕄) = (m.view.loc (c : Thread nD τ) ↦[m.view.set]{q} f) :=
      pointsTo_congr fun i hi => by
        obtain ⟨j, _, rfl⟩ := Finset.mem_map.mp hi
        have := congrFun h j
        rw [View.read_apply, View.read_apply] at this
        exact (cast_inj _).mp this
    iapply (Entails.of_eq e) $$ H
  exact BI.equiv_iff.mp ⟨h₁, owns_intro (c : Thread nD τ) m q f⟩

/-- The share of a slice splits in two. -/
theorem own_halves (c : Dev nD) {s : Shape} (m : Memref sig .tc .vmem s .f32) (q : PosShare TreeShare) (v : Vec F s .f32) :
    (own c m q v : sProp 𝕄) = iprop(own c m q.left v ∗ own c m q.right v) :=
  BI.equiv_iff.mp ⟨(owns_halves (c : Thread nD τ) m q v).1, (owns_halves (c : Thread nD τ) m q v).2⟩

/-- Elements cut into a family of disjoint parts. -/
theorem cut_gen {ℓ : Loc nD τ sig} {T : Type} [Fintype T] [DecidableEq T] (q : PosShare TreeShare) (f : Buf (Elt F) ℓ) (A : Finset (Idx ℓ))
    (Φ : T → sProp 𝕄) (K : T → Finset (Idx ℓ)) (hΦ : ∀ t, Φ t = (ℓ ↦[K t]{q} f)) (hd : ∀ t t' i, i ∈ K t → i ∈ K t' → t = t')
    (hc : ∀ i, i ∈ A ↔ ∃ t, i ∈ K t) : ((ℓ ↦[A]{q} f) : sProp 𝕄) = bigSep Finset.univ Φ := by
  rw [funext hΦ, ← pointsTo_biUnion Finset.univ K fun t _ t' _ hne => Finset.disjoint_left.mpr fun i hi hi' => hne (hd t t' i hi hi')]
  congr 1
  ext i
  rw [hc, Finset.mem_biUnion]
  exact ⟨fun ⟨t, h⟩ => ⟨t, Finset.mem_univ _, h⟩, fun ⟨t, _, h⟩ => ⟨t, h⟩⟩

section Cuts
variable (c : Dev nD) (g : Fin 2) (q : PosShare TreeShare)

/-- Owning a piece at what it reads of contents is holding its elements at those contents. -/
theorem own_oS (w : Fin 5) (h : Fin 2) (f : S2048x1024.Idx → Elt F .f32) :
    (own c (oS c w g h) q ((oS c w g h).view.read (Elt F) f) : sProp 𝕄) = ((c : Thread nD τ).loc cc0_stg1_0 ↦[oE c w g h]{q} f) :=
  own_read c (oS c w g h) q f
theorem own_xS (w : Fin 5) (h : Fin 2) (f : S2048x1024.Idx → Elt F .f32) :
    (own c (xS c w g h) q ((xS c w g h).view.read (Elt F) f) : sProp 𝕄) = ((c : Thread nD τ).loc cc0_stg0_0 ↦[xE c w g h]{q} f) :=
  own_read c (xS c w g h) q f
theorem own_qS (w : Fin 5) (h : Fin 2) (f : S2048x1024.Idx → Elt F .f32) :
    (own c (qS c w g h) q ((qS c w g h).view.read (Elt F) f) : sProp 𝕄) = ((c : Thread nD τ).loc cc0_stg1_0 ↦[qE c w g h]{q} f) :=
  own_read c (qS c w g h) q f
theorem own_pS (w : Fin 5) (h : Fin 2) (f : S2x256x1024.Idx → Elt F .f32) :
    (own c (pS c w g h) q ((pS c w g h).view.read (Elt F) f) : sProp 𝕄) = ((c : Thread nD τ).loc cc0_scratch6 ↦[pE c w g h]{q} f) :=
  own_read c (pS c w g h) q f
theorem own_hS (h : Fin 2) (f : S2x256x1024.Idx → Elt F .f32) :
    (own c (hS g h) q ((hS g h).view.read (Elt F) f) : sProp 𝕄) = ((c : Thread nD τ).loc cc0_scratch6 ↦[hE g h]{q} f) :=
  own_read c (hS g h) q f

/-- The output buffer whole, cut into its sixteen 128-row pieces. -/
theorem cut_oM (f : S2048x1024.Idx → Elt F .f32) :
    (((c : Thread nD τ).loc cc0_stg1_0 ↦{q} f) : sProp 𝕄)
      = bigSep Finset.univ fun g => b8 fun w h => own c (oS c w g h) q ((oS c w g h).view.read (Elt F) f) := by
  rw [funext fun g => (b8_eq fun w h => (own c (oS c w g h) q ((oS c w g h).view.read (Elt F) f) : sProp 𝕄)).symm,
    ← bigSep_univ_prod (fun x : Fin 2 × Fin 8 => (own c (oS c (w8 x.2) x.1 (h8 x.2)) q ((oS c (w8 x.2) x.1 (h8 x.2)).view.read (Elt F) f) : sProp 𝕄))]
  refine cut_gen (ℓ := (c : Thread nD τ).loc cc0_stg1_0) q f Finset.univ _ (fun x : Fin 2 × Fin 8 => oE c (w8 x.2) x.1 (h8 x.2))
    (fun x => own_oS c x.1 q (w8 x.2) (h8 x.2) f) ?_ fun (i : S2048x1024.Idx) => ⟨fun _ => ?_, fun _ => Finset.mem_univ _⟩
  · rintro ⟨g, n⟩ ⟨g', n'⟩ (i : S2048x1024.Idx) hi hi'
    have h₁ := (mem_oS _ _ _ _ _).mp hi
    have h₂ := (mem_oS _ _ _ _ _).mp hi'
    dsimp only at h₁ h₂
    have := w8_inj' c.val n n' (by omega) (by omega)
    have : g = g' := Fin.ext (by omega)
    subst n'; subst this; rfl
  · obtain ⟨n, e, e'⟩ := w8_surj' c.val ((i 0).val / 512) ((i 0).val % 256 / 128) (by have : (i 0).val < 2048 := (i 0).isLt; omega) (by omega)
    refine ⟨(⟨(i 0).val % 512 / 256, by omega⟩, n), (mem_oS _ _ _ _ _).mpr ?_⟩
    dsimp only
    omega

/-- The input buffer whole, cut into its sixteen 128-row pieces. -/
theorem cut_xM (f : S2048x1024.Idx → Elt F .f32) :
    (((c : Thread nD τ).loc cc0_stg0_0 ↦{q} f) : sProp 𝕄)
      = bigSep Finset.univ fun g => b8 fun w h => own c (xS c w g h) q ((xS c w g h).view.read (Elt F) f) := by
  rw [funext fun g => (b8_eq fun w h => (own c (xS c w g h) q ((xS c w g h).view.read (Elt F) f) : sProp 𝕄)).symm,
    ← bigSep_univ_prod (fun x : Fin 2 × Fin 8 => (own c (xS c (w8 x.2) x.1 (h8 x.2)) q ((xS c (w8 x.2) x.1 (h8 x.2)).view.read (Elt F) f) : sProp 𝕄))]
  refine cut_gen (ℓ := (c : Thread nD τ).loc cc0_stg0_0) q f Finset.univ _ (fun x : Fin 2 × Fin 8 => xE c (w8 x.2) x.1 (h8 x.2))
    (fun x => own_xS c x.1 q (w8 x.2) (h8 x.2) f) ?_ fun (i : S2048x1024.Idx) => ⟨fun _ => ?_, fun _ => Finset.mem_univ _⟩
  · rintro ⟨g, n⟩ ⟨g', n'⟩ (i : S2048x1024.Idx) hi hi'
    have h₁ := (mem_xS _ _ _ _ _).mp hi
    have h₂ := (mem_xS _ _ _ _ _).mp hi'
    dsimp only at h₁ h₂
    have := w8_inj' c.val n n' (by omega) (by omega)
    have : g = g' := Fin.ext (by omega)
    subst n'; subst this; rfl
  · obtain ⟨n, e, e'⟩ := w8_surj' c.val ((i 0).val / 512) ((i 0).val % 256 / 128) (by have : (i 0).val < 2048 := (i 0).isLt; omega) (by omega)
    refine ⟨(⟨(i 0).val % 512 / 256, by omega⟩, n), (mem_xS _ _ _ _ _).mpr ?_⟩
    dsimp only
    omega

/-- A half of the device's own block of the output: its 256 rows. -/
def blkE : Finset S2048x1024.Idx :=
  Finset.univ.filter fun i => 512 * (c.val % 4) + 256 * g.val ≤ (i 0).val ∧ (i 0).val < 512 * (c.val % 4) + 256 * g.val + 256

/-- A half of the device's own block of the output, cut into its two 128-row pieces. -/
theorem cut_blk2 (f : S2048x1024.Idx → Elt F .f32) :
    (((c : Thread nD τ).loc cc0_stg1_0 ↦[blkE c g]{q} f) : sProp 𝕄)
      = iprop(own c (oS c 2 g 0) q ((oS c 2 g 0).view.read (Elt F) f) ∗ own c (oS c 2 g 1) q ((oS c 2 g 1).view.read (Elt F) f)) := by
  refine (cut_gen (ℓ := (c : Thread nD τ).loc cc0_stg1_0) q f (blkE c g) (fun h => own c (oS c 2 g h) q ((oS c 2 g h).view.read (Elt F) f)) (fun h : Fin 2 => oE c 2 g h)
    (fun h => own_oS c g q 2 h f) ?_ fun (i : S2048x1024.Idx) => ?_).trans (b2_eq _)
  · rintro h h' (i : S2048x1024.Idx) hi hi'
    have h₁ := (mem_oS _ _ _ _ _).mp hi
    have h₂ := (mem_oS _ _ _ _ _).mp hi'
    exact Fin.ext (by omega)
  · refine ⟨fun hi => ?_, fun ⟨h, hi⟩ => Finset.mem_filter.mpr ⟨Finset.mem_univ _, ?_⟩⟩
    · have hi := (Finset.mem_filter.mp hi).2
      refine ⟨⟨(i 0).val % 256 / 128, by omega⟩, (mem_oS _ _ _ _ _).mpr ?_⟩
      simp only [wn]
      omega
    · have hi := (mem_oS _ _ _ _ _).mp hi
      simp only [wn] at hi
      have := h.isLt
      omega

/-- The same cut into its eight 32-row pieces. -/
theorem cut_blk8 (f : S2048x1024.Idx → Elt F .f32) :
    (((c : Thread nD τ).loc cc0_stg1_0 ↦[blkE c g]{q} f) : sProp 𝕄)
      = b8 fun w h => own c (qS c w g h) q ((qS c w g h).view.read (Elt F) f) := by
  refine (cut_gen (ℓ := (c : Thread nD τ).loc cc0_stg1_0) q f (blkE c g) _ (fun n : Fin 8 => qE c (w8 n) g (h8 n))
    (fun n => own_qS c g q (w8 n) (h8 n) f) ?_ fun (i : S2048x1024.Idx) => ?_).trans
    (b8_eq fun w h => own c (qS c w g h) q ((qS c w g h).view.read (Elt F) f))
  · rintro n n' (i : S2048x1024.Idx) hi hi'
    have h₁ := (mem_qS _ _ _ _ _).mp hi
    have h₂ := (mem_qS _ _ _ _ _).mp hi'
    exact w8_inj' (c.val / 4) n n' (by omega) (by omega)
  · refine ⟨fun hi => ?_, fun ⟨n, hi⟩ => Finset.mem_filter.mpr ⟨Finset.mem_univ _, ?_⟩⟩
    · have hi := (Finset.mem_filter.mp hi).2
      obtain ⟨n, e, e'⟩ := w8_surj' (c.val / 4) ((i 0).val % 256 / 64) ((i 0).val % 64 / 32) (by omega) (by omega)
      exact ⟨n, (mem_qS _ _ _ _ _).mpr (by omega)⟩
    · have hi := (mem_qS _ _ _ _ _).mp hi
      have := (h8 n).isLt
      omega

/-- A half of the device's own block of the output: two 128-row pieces are eight 32-row pieces. -/
theorem cut_oS (f : S2048x1024.Idx → Elt F .f32) :
    (iprop(own c (oS c 2 g 0) q ((oS c 2 g 0).view.read (Elt F) f) ∗ own c (oS c 2 g 1) q ((oS c 2 g 1).view.read (Elt F) f)) : sProp 𝕄)
      = b8 fun w h => own c (qS c w g h) q ((qS c w g h).view.read (Elt F) f) :=
  (cut_blk2 c g q f).symm.trans (cut_blk8 c g q f)

/-- A half of the partial sums. -/
def halfE : Finset S2x256x1024.Idx := Finset.univ.filter fun i => (i 0).val = g.val

/-- A half of the partial sums, cut into its two 128-row parts. -/
theorem cut_half2 (f : S2x256x1024.Idx → Elt F .f32) :
    (((c : Thread nD τ).loc cc0_scratch6 ↦[halfE g]{q} f) : sProp 𝕄)
      = iprop(own c (hS g 0) q ((hS g 0).view.read (Elt F) f) ∗ own c (hS g 1) q ((hS g 1).view.read (Elt F) f)) := by
  refine (cut_gen (ℓ := (c : Thread nD τ).loc cc0_scratch6) q f (halfE g) (fun h => own c (hS g h) q ((hS g h).view.read (Elt F) f)) (fun h : Fin 2 => hE g h)
    (fun h => own_hS c g q h f) ?_ fun (i : S2x256x1024.Idx) => ?_).trans (b2_eq _)
  · rintro h h' (i : S2x256x1024.Idx) hi hi'
    have h₁ := (mem_hS _ _ _).mp hi
    have h₂ := (mem_hS _ _ _).mp hi'
    exact Fin.ext (by omega)
  · refine ⟨fun hi => ?_, fun ⟨h, hi⟩ => Finset.mem_filter.mpr ⟨Finset.mem_univ _, ((mem_hS _ _ _).mp hi).1⟩⟩
    have hi1 : (i 1).val < 256 := (i 1).isLt
    have hi := (Finset.mem_filter.mp hi).2
    exact ⟨⟨(i 1).val / 128, by omega⟩, (mem_hS _ _ _).mpr ⟨hi, by dsimp only; omega, by dsimp only; omega⟩⟩

/-- The same cut into its eight 32-row pieces. -/
theorem cut_half8 (f : S2x256x1024.Idx → Elt F .f32) :
    (((c : Thread nD τ).loc cc0_scratch6 ↦[halfE g]{q} f) : sProp 𝕄)
      = b8 fun w h => own c (pS c w g h) q ((pS c w g h).view.read (Elt F) f) := by
  refine (cut_gen (ℓ := (c : Thread nD τ).loc cc0_scratch6) q f (halfE g) _ (fun n : Fin 8 => pE c (w8 n) g (h8 n))
    (fun n => own_pS c g q (w8 n) (h8 n) f) ?_ fun (i : S2x256x1024.Idx) => ?_).trans
    (b8_eq fun w h => own c (pS c w g h) q ((pS c w g h).view.read (Elt F) f))
  · rintro n n' (i : S2x256x1024.Idx) hi hi'
    have h₁ := (mem_pS _ _ _ _ _).mp hi
    have h₂ := (mem_pS _ _ _ _ _).mp hi'
    exact w8_inj' (c.val / 4) n n' (by omega) (by omega)
  · refine ⟨fun hi => ?_, fun ⟨n, hi⟩ => Finset.mem_filter.mpr ⟨Finset.mem_univ _, ((mem_pS _ _ _ _ _).mp hi).1⟩⟩
    have hi1 : (i 1).val < 256 := (i 1).isLt
    have hi := (Finset.mem_filter.mp hi).2
    obtain ⟨n, e, e'⟩ := w8_surj' (c.val / 4) ((i 1).val / 64) ((i 1).val % 64 / 32) (by omega) (by omega)
    exact ⟨n, (mem_pS _ _ _ _ _).mpr ⟨hi, by omega, by omega⟩⟩

/-- A half of the partial sums: two 128-row parts are eight 32-row pieces. -/
theorem cut_hS (f : S2x256x1024.Idx → Elt F .f32) :
    (iprop(own c (hS g 0) q ((hS g 0).view.read (Elt F) f) ∗ own c (hS g 1) q ((hS g 1).view.read (Elt F) f)) : sProp 𝕄)
      = b8 fun w h => own c (pS c w g h) q ((pS c w g h).view.read (Elt F) f) :=
  (cut_half2 c g q f).symm.trans (cut_half8 c g q f)

/-- The partial sums whole, cut into their two halves of two parts. -/
theorem cut_pM (f : S2x256x1024.Idx → Elt F .f32) :
    (((c : Thread nD τ).loc cc0_scratch6 ↦{q} f) : sProp 𝕄)
      = bigSep Finset.univ fun g => iprop(own c (hS g 0) q ((hS g 0).view.read (Elt F) f) ∗ own c (hS g 1) q ((hS g 1).view.read (Elt F) f)) :=
  cut_gen (ℓ := (c : Thread nD τ).loc cc0_scratch6) q f Finset.univ _ halfE (fun g => (cut_half2 c g q f).symm)
    (fun g g' i h h' => Fin.ext ((Finset.mem_filter.mp h).2.symm.trans (Finset.mem_filter.mp h').2))
    fun (i : S2x256x1024.Idx) => ⟨fun _ => ⟨⟨(i 0).val, (i 0).isLt⟩, Finset.mem_filter.mpr ⟨Finset.mem_univ _, rfl⟩⟩, fun _ => Finset.mem_univ _⟩

end Cuts

end Cert.ArProof
-- ==== Proof.Split.lean ====
/-
What the stored sums are, read back as pieces, and how the pieces of each buffer are dealt to the transfers: the input's
and the partial sums' to the reductions, the output's to the gathers, by shares where a piece is sent twice.
-/
module

public import proofs.«01_k».proof.Proof.Pieces

@[expose] public section

set_option backward.proofsInPublic true
set_option maxRecDepth 100000

noncomputable section

namespace Cert.ArProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The stored sums -/

/-- The digits of a row. -/
theorem row_digits (j g q h r R : ℕ) (hj : j < 4) (hg : g < 2) (hq : q < 4) (hh : h < 2) (hr : r < 32)
    (e : R = 512 * j + 256 * g + 64 * q + 32 * h + r) : R / 512 = j ∧ R % 512 / 256 = g ∧ R % 256 / 64 = q ∧ R % 64 / 32 = h ∧ R % 32 = r := by
  have e₁ : R % 512 = 256 * g + 64 * q + 32 * h + r := by omega
  have e₂ : R % 256 = 64 * q + 32 * h + r := by omega
  have e₃ : R % 64 = 32 * h + r := by omega
  refine ⟨by omega, by omega, by omega, by omega, by omega⟩

section Values
variable (X : Dev nD → Vec F S2048x1024 .f32) (c : Dev nD) (g : Fin 2)

/-- The final array at a row of what device `c` completes. -/
theorem OUT_apply (h : Fin 2) (r : Fin 32) (i : S2048x1024.Idx)
    (e : (i 0).val = 512 * (c.val % 4) + 256 * g.val + 64 * (c.val / 4) + 32 * h.val + r.val) : OUT X i = Qv X c g h (ix2 r (i 1)) := by
  have hc : c.val < 16 := c.isLt
  have hg : g.val < 2 := g.isLt
  have hh : h.val < 2 := h.isLt
  have hr : r.val < 32 := r.isLt
  have hi : (i 0).val < 2048 := (i 0).isLt
  obtain ⟨d₁, d₂, d₃, d₄, d₅⟩ := row_digits (c.val % 4) g.val (c.val / 4) h.val r.val _ (by omega) hg (by omega) hh hr e
  have e₁ : (Fin.ofNat 16 (4 * ((i 0).val % 256 / 64) + (i 0).val / 512) : Fin 16) = c :=
    Fin.ext (by show (4 * ((i 0).val % 256 / 64) + (i 0).val / 512) % 16 = c.val; rw [d₁, d₃]; omega)
  have e₂ : (Fin.ofNat 2 ((i 0).val % 512 / 256) : Fin 2) = g := Fin.ext (by show ((i 0).val % 512 / 256) % 2 = g.val; rw [d₂]; omega)
  have e₃ : (Fin.ofNat 2 ((i 0).val % 64 / 32) : Fin 2) = h := Fin.ext (by show ((i 0).val % 64 / 32) % 2 = h.val; rw [d₄]; omega)
  have e₄ : (⟨(i 0).val % 32, Nat.mod_lt _ (by decide)⟩ : Fin 32) = r := Fin.ext d₅
  unfold OUT
  rw [e₁, e₂, e₃, e₄]

theorem ix2_self {a b : ℕ} (i : (⟨2, ![a, b]⟩ : Shape).Idx) : ix2 (i 0) (i 1) = i := by
  funext x; match x with
  | 0 => rfl
  | 1 => rfl

/-- What device `c` completes is its rows of the final array. -/
theorem qv_out (h : Fin 2) : ((qS c 2 g h).view.read (Elt F) (OUT X) : Vec F S32x1024 .f32) = Qv X c g h := by
  funext (i : S32x1024.Idx)
  show OUT X ((Rect.unit (s := S2048x1024) (off32 c 2 g h) S32x1024.size (inb32 c 2 g h)).emb i) = _
  have hc : c.val < 16 := c.isLt
  rw [OUT_apply X c g h (i 0) _ (by
    rw [Rect.emb_apply]
    show off32 c 2 g h 0 + 1 * (i 0).val = _
    rw [off32_eq]
    show 512 * (c.val % 4) + 256 * g.val + 64 * ((c.val / 4 + 0) % 4) + 32 * h.val + 1 * (i 0).val = _
    omega)]
  have : ((Rect.unit (s := S2048x1024) (off32 c 2 g h) S32x1024.size (inb32 c 2 g h)).emb i) 1 = (i 1 : Fin 1024) :=
    Fin.ext (by
      rw [Rect.emb_apply]
      show off32 c 2 g h 1 + 1 * (i 1).val = _
      rw [off32_eq]
      show 0 + 1 * (i 1).val = _
      omega)
  rw [this]
  exact congrArg _ (ix2_self i)

/-- The partial sums at a row of a part. -/
theorem PRf_apply (h : Fin 2) (r : Fin 128) (i : S2x256x1024.Idx) (e₀ : (i 0).val = g.val) (e : (i 1).val = 128 * h.val + r.val) :
    PRf X c i = PRv X c g h (ix2 r (i 2)) := by
  have e₁ : (⟨(i 0).val, (i 0).isLt⟩ : Fin 2) = g := Fin.ext e₀
  have e₂ : (⟨(i 1).val / 128, Nat.div_lt_of_lt_mul (i 1).isLt⟩ : Fin 2) = h := Fin.ext (by show (i 1).val / 128 = h.val; omega)
  have e₃ : (⟨(i 1).val % 128, Nat.mod_lt _ (by decide)⟩ : Fin 128) = r := Fin.ext (by show (i 1).val % 128 = r.val; omega)
  unfold PRf
  rw [e₁, e₂, e₃]

/-- A stored part of the partial sums is its rows of the array. -/
theorem prv_prf (h : Fin 2) :
    ((hS g h).view.read (Elt F) (PRf X c) : Vec F S1x128x1024 .f32) = shapeCast S1x128x1024 (PRv X c g h) shapeCasts_S128x1024_S1x128x1024 := by
  funext (i : S1x128x1024.Idx)
  rw [show shapeCast S1x128x1024 (PRv X c g h) shapeCasts_S128x1024_S1x128x1024 i = PRv X c g h (fun a => i a.succ) from
    shapeCast_addUnit_apply (n := 2) ![128, 1024] (PRv X c g h) _ i]
  show PRf X c ((rH g h).emb i) = _
  have h0 : (i 0).val < 1 := (i 0).isLt
  rw [PRf_apply X c g h (i 1) _
    (by show g.val + 1 * (i 0).val = g.val; omega)
    (by show 128 * h.val + 1 * (i 1).val = 128 * h.val + (i 1).val; omega)]
  have : ((rH g h).emb i) 2 = (i 2 : Fin 1024) := Fin.ext (by show 0 + 1 * (i 2).val = (i 2).val; omega)
  rw [this]
  refine congrArg _ ?_
  funext x; match x with
  | 0 => rfl
  | 1 => rfl

/-! ## The pieces dealt out -/

/-- Two slices in full are the quarters of their left halves, and their right halves. -/
theorem own_split_ll {s : Shape} (m m' : Memref sig .tc .vmem s .f32) (v v' : Vec F s .f32) :
    iprop(own c m fullShare v ∗ own c m' fullShare v') ⊢ (iprop((own c m fullShare.left.left v ∗ own c m fullShare.left.right v
      ∗ own c m' fullShare.left.left v' ∗ own c m' fullShare.left.right v') ∗ own c m fullShare.right v ∗ own c m' fullShare.right v') : sProp 𝕄) := by
  rw [own_halves c m fullShare, own_halves c m fullShare.left, own_halves c m' fullShare, own_halves c m' fullShare.left]
  iintro ⟨⟨⟨H0, H1⟩, HR0⟩, ⟨H2, H3⟩, HR1⟩
  iframe
/-- Two slices at a share are their halves. -/
theorem own_split_lr {s : Shape} (m m' : Memref sig .tc .vmem s .f32) (q : PosShare TreeShare) (v v' : Vec F s .f32) :
    iprop(own c m q v ∗ own c m' q v') ⊢ (iprop(own c m q.left v ∗ own c m q.right v ∗ own c m' q.left v' ∗ own c m' q.right v') : sProp 𝕄) := by
  rw [own_halves c m q, own_halves c m' q]
  iintro ⟨⟨H0, H1⟩, H2, H3⟩
  iframe
/-- Six pieces and the halves of two slices are eight pieces. -/
theorem own_join_lr {s : Shape} (m m' : Memref sig .tc .vmem s .f32) (q : PosShare TreeShare) (v v' : Vec F s .f32) (N0 N1 N2 N3 N4 N5 : sProp 𝕄) :
    iprop((own c m q.left v ∗ own c m q.right v ∗ own c m' q.left v' ∗ own c m' q.right v' ∗ N4 ∗ N5) ∗ N1 ∗ N3 ∗ N0 ∗ N2)
      ⊢ iprop(N0 ∗ N1 ∗ N2 ∗ N3 ∗ N4 ∗ N5 ∗ own c m q v ∗ own c m' q v') := by
  rw [own_halves c m q, own_halves c m' q]
  iintro ⟨⟨H0, H1, H2, H3, H4, H5⟩, N1, N3, N0, N2⟩
  iframe
/-- The same where the left halves come by themselves. -/
theorem own_join_rlr {s : Shape} (m m' : Memref sig .tc .vmem s .f32) (v v' : Vec F s .f32) (N0 N1 N2 N3 N4 N5 : sProp 𝕄) :
    iprop((own c m fullShare.left v ∗ own c m' fullShare.left v')
        ∗ (own c m fullShare.right.left v ∗ own c m fullShare.right.right v ∗ own c m' fullShare.right.left v' ∗ own c m' fullShare.right.right v' ∗ N4 ∗ N5) ∗ N1 ∗ N3 ∗ N0 ∗ N2)
      ⊢ iprop(N0 ∗ N1 ∗ N2 ∗ N3 ∗ N4 ∗ N5 ∗ own c m fullShare v ∗ own c m' fullShare v') := by
  rw [own_halves c m fullShare, own_halves c m' fullShare, own_halves c m fullShare.right, own_halves c m' fullShare.right]
  iintro ⟨⟨HL, HL'⟩, ⟨H0, H1, H2, H3, H4, H5⟩, N1, N3, N0, N2⟩
  iframe
theorem with_emp (P : sProp 𝕄) : P ⊢ iprop(P ∗ emp) := by
  iintro H
  isplitl [H]; · iexact H
  iempintro

/-- The input as the four pieces a reduction's first transfers carry and the four it only reads, for both halves. -/
theorem deal_x : (((c : Thread nD τ).loc cc0_stg0_0 ↦{fullShare} X c) : sProp 𝕄)
    = bigSep Finset.univ fun g => iprop(SP X c 0 g 0 ∗ SP X c 0 g 1 ∗ SP X c 0 g 3 ∗ SP X c 0 g 4 ∗ XL X c g) := by
  rw [cut_xM]; rfl

/-- The stored partial sums of a half as the four pieces a reduction's first transfers carry and the four it only reads. -/
theorem deal_p : (PH X c g : sProp 𝕄) = iprop(SP X c 1 g 0 ∗ SP X c 1 g 1 ∗ SP X c 1 g 3 ∗ SP X c 1 g 4 ∗ PL X c g) := by
  unfold PH
  rw [← prv_prf, ← prv_prf, cut_hS]; rfl

/-- The right share of the two sums a device completes. -/
def QR : sProp 𝕄 := iprop(own c (qS c 2 g 0) fullShare.right ((qS c 2 g 0).view.read (Elt F) (OUT X))
  ∗ own c (qS c 2 g 1) fullShare.right ((qS c 2 g 1).view.read (Elt F) (OUT X)))

/-- The sums a device completes, as what the first transfers of a gather carry and a share that stays. -/
theorem deal_q : (QH X c g : sProp 𝕄) ⊢ iprop((SP X c 2 g 0 ∗ SP X c 2 g 1 ∗ SP X c 2 g 2 ∗ SP X c 2 g 3) ∗ QR X c g) := by
  unfold QH QR
  rw [← qv_out, ← qv_out]
  exact own_split_ll c (qS c 2 g 0) (qS c 2 g 1) ((qS c 2 g 0).view.read (Elt F) (OUT X)) ((qS c 2 g 1).view.read (Elt F) (OUT X))

/-- A piece that arrived in the gather along the column, at share `q`. -/
abbrev QP (q : PosShare TreeShare) (k : Fin 6) : sProp 𝕄 :=
  own c (qS c (lw k) g (lh k)) q ((qS c (lw k) g (lh k)).view.read (Elt F) (OUT X))

theorem LP_halves (k : Fin 6) : (LP X c 2 g k : sProp 𝕄) = iprop(QP X c g fullShare.left k ∗ QP X c g fullShare.right k) :=
  own_halves c (qS c (lw k) g (lh k)) fullShare _

/-- A piece that is sent on: its left share goes. -/
theorem pass_q0 : (LP X c 2 g 0 : sProp 𝕄) ⊢ iprop(SP X c 2 g 4 ∗ QP X c g fullShare.right 0) := by
  rw [LP_halves]; exact .rfl
theorem pass_q2 : (LP X c 2 g 2 : sProp 𝕄) ⊢ iprop(SP X c 2 g 5 ∗ QP X c g fullShare.right 2) := by
  rw [LP_halves]; exact .rfl
theorem pass_o0 : (LP X c 3 g 0 : sProp 𝕄) ⊢ iprop(SP X c 3 g 4 ∗ emp) := with_emp _
theorem pass_o2 : (LP X c 3 g 2 : sProp 𝕄) ⊢ iprop(SP X c 3 g 5 ∗ emp) := with_emp _

/-- The left shares that stay during the gather along the row. -/
def QL : sProp 𝕄 := iprop(QP X c g fullShare.left 1 ∗ QP X c g fullShare.left 3 ∗ QP X c g fullShare.left 4 ∗ QP X c g fullShare.left 5)

/-- After the gather along the column: the right shares of the eight pieces are what the first transfers of the gather
along the row carry. -/
theorem deal_o : iprop(QR X c g ∗ QP X c g fullShare.right 0 ∗ QP X c g fullShare.right 2 ∗ LP X c 2 g 1 ∗ LP X c 2 g 3 ∗ LP X c 2 g 4 ∗ LP X c 2 g 5)
    ⊢ iprop((SP X c 3 g 0 ∗ SP X c 3 g 1 ∗ SP X c 3 g 2 ∗ SP X c 3 g 3) ∗ QL X c g : sProp 𝕄) := by
  rw [LP_halves, LP_halves, LP_halves, LP_halves]
  have hcut : iprop(QP X c g fullShare.right 4 ∗ QP X c g fullShare.right 1 ∗ QP X c g fullShare.right 5 ∗ QP X c g fullShare.right 3
      ∗ QP X c g fullShare.right 0 ∗ QP X c g fullShare.right 2 ∗ QR X c g)
      ⊢ iprop(SP X c 3 g 0 ∗ SP X c 3 g 1 ∗ SP X c 3 g 2 ∗ SP X c 3 g 3 : sProp 𝕄) := by
    refine .trans (Entails.of_eq (cut_oS c g fullShare.right (OUT X)).symm) ?_
    exact own_split_lr c (oS c 2 g 0) (oS c 2 g 1) fullShare.right ((oS c 2 g 0).view.read (Elt F) (OUT X)) ((oS c 2 g 1).view.read (Elt F) (OUT X))
  unfold QL
  iintro ⟨HQR, HR0, HR2, ⟨HL1, HR1⟩, ⟨HL3, HR3⟩, ⟨HL4, HR4⟩, HL5, HR5⟩
  isplitl [HQR HR0 HR1 HR2 HR3 HR4 HR5]
  · iapply hcut
    iframe
  · iframe

/-- At the end: the shares of the own block that came back and those that stayed, and the other blocks, are the
sixteen pieces' half of the final array. -/
theorem gather_o : iprop(b6 (SP X c 2 g) ∗ b6 (SP X c 3 g) ∗ QL X c g ∗ LP X c 3 g 1 ∗ LP X c 3 g 3 ∗ LP X c 3 g 4 ∗ LP X c 3 g 5)
    ⊢ (b8 fun w h => own c (oS c w g h) fullShare ((oS c w g h).view.read (Elt F) (OUT X)) : sProp 𝕄) := by
  have hj : iprop((own c (oS c 2 g 0) fullShare.left ((oS c 2 g 0).view.read (Elt F) (OUT X))
        ∗ own c (oS c 2 g 1) fullShare.left ((oS c 2 g 1).view.read (Elt F) (OUT X)))
      ∗ b6 (SP X c 3 g) ∗ LP X c 3 g 1 ∗ LP X c 3 g 3 ∗ LP X c 3 g 4 ∗ LP X c 3 g 5)
      ⊢ (b8 fun w h => own c (oS c w g h) fullShare ((oS c w g h).view.read (Elt F) (OUT X)) : sProp 𝕄) :=
    own_join_rlr c (oS c 2 g 0) (oS c 2 g 1) ((oS c 2 g 0).view.read (Elt F) (OUT X)) ((oS c 2 g 1).view.read (Elt F) (OUT X))
      (LP X c 3 g 4) (LP X c 3 g 1) (LP X c 3 g 5) (LP X c 3 g 3) (SP X c 3 g 4) (SP X c 3 g 5)
  have hl : iprop(b6 (SP X c 2 g) ∗ QL X c g)
      ⊢ iprop(own c (oS c 2 g 0) fullShare.left ((oS c 2 g 0).view.read (Elt F) (OUT X))
        ∗ own c (oS c 2 g 1) fullShare.left ((oS c 2 g 1).view.read (Elt F) (OUT X)) : sProp 𝕄) := by
    rw [cut_oS]
    exact own_join_lr c (qS c 2 g 0) (qS c 2 g 1) fullShare.left ((qS c 2 g 0).view.read (Elt F) (OUT X)) ((qS c 2 g 1).view.read (Elt F) (OUT X))
      (QP X c g fullShare.left 4) (QP X c g fullShare.left 1) (QP X c g fullShare.left 5) (QP X c g fullShare.left 3) (SP X c 2 g 4) (SP X c 2 g 5)
  iintro ⟨HS2, HS3, HQ, HL⟩
  ihave HB := hl $$ [HS2 HQ]
  · iframe
  iapply hj
  iframe

end Values

/-! ## The landing buffers -/

section Landing
variable (c : Dev nD)

/-- A slice with a unit axis dropped is the same elements. -/
theorem any_squeeze {s s' : Shape} (m : Memref sig .tc .vmem s .f32) (h) :
    (any c (m.squeeze s' h) : sProp 𝕄) = any c m := by
  have h₁ : (any c (m.squeeze s' h) : sProp 𝕄) ⊢ any c m := by
    unfold any own owns
    iintro ⟨%v, %f, -, H⟩
    rw [Memref.set_view_squeeze]
    iexists (m.view.read (Elt F) f); iexists f
    isplitr; · ipureintro; rfl
    iexact H
  have h₂ : (any c m : sProp 𝕄) ⊢ any c (m.squeeze s' h) := by
    unfold any own owns
    iintro ⟨%v, %f, -, H⟩
    iexists ((m.squeeze s' h).view.read (Elt F) f); iexists f
    isplitr; · ipureintro; rfl
    rw [Memref.set_view_squeeze]
    iexact H
  exact BI.equiv_iff.mp ⟨h₁, h₂⟩

/-- The index in a half of an index of a landing buffer. -/
def row3 {n : ℕ} (i : (⟨3, ![2, n, 1024]⟩ : Shape).Idx) : (⟨3, ![1, n, 1024]⟩ : Shape).Idx
  | 0 => (0 : Fin 1)
  | 1 => i 1
  | 2 => i 2

theorem row3_emb {n : ℕ} {g : Fin 2} (inb : ∀ a, (![g.val, 0, 0] : Fin 3 → ℕ) a + (![1, n, 1024] : Fin 3 → ℕ) a ≤ (![2, n, 1024] : Fin 3 → ℕ) a)
    (j : (⟨3, ![1, n, 1024]⟩ : Shape).Idx) : row3 ((Rect.unit (s := ⟨3, ![2, n, 1024]⟩) ![g.val, 0, 0] ![1, n, 1024] inb).emb j) = j := by
  funext a
  match a with
  | 0 => exact Fin.ext (by have h0 : (j 0).val < 1 := (j 0).isLt; show 0 = (j 0).val; omega)
  | 1 => exact Fin.ext (by show 0 + 1 * (j 1).val = (j 1).val; omega)
  | 2 => exact Fin.ext (by show 0 + 1 * (j 2).val = (j 2).val; omega)

/-- A landing buffer cut into its two halves, at any contents. -/
theorem any_halves {n : ℕ} (m : Memref sig .tc .vmem ⟨3, ![2, n, 1024]⟩ .f32)
    (inb : ∀ g : Fin 2, ∀ a, (![g.val, 0, 0] : Fin 3 → ℕ) a + (![1, n, 1024] : Fin 3 → ℕ) a ≤ (![2, n, 1024] : Fin 3 → ℕ) a) :
    (any c m : sProp 𝕄) = iprop(any c (m.slice (Rect.unit (s := ⟨3, ![2, n, 1024]⟩) ![(0 : Fin 2).val, 0, 0] ![1, n, 1024] (inb 0)) (fun _ => rfl))
      ∗ any c (m.slice (Rect.unit (s := ⟨3, ![2, n, 1024]⟩) ![(1 : Fin 2).val, 0, 0] ![1, n, 1024] (inb 1)) (fun _ => rfl))) := by
  let r : Fin 2 → Rect ⟨3, ![2, n, 1024]⟩ := fun g => Rect.unit (s := ⟨3, ![2, n, 1024]⟩) ![g.val, 0, 0] ![1, n, 1024] (inb g)
  have hmem : ∀ g (i : (⟨3, ![2, n, 1024]⟩ : Shape).Idx), i ∈ (r g).set ↔ (i 0).val = g.val := fun g i => by
    rw [mem_of_rect (rfl : (r g).set = _)]
    refine ⟨fun h => ?_, fun h a => ?_⟩
    · have : g.val ≤ (i 0).val ∧ (i 0).val < g.val + 1 := h 0
      omega
    · match a with
      | 0 => show g.val ≤ (i 0).val ∧ (i 0).val < g.val + 1; omega
      | 1 => exact ⟨Nat.zero_le _, (i 1).isLt.trans_le (Nat.le_add_left _ _)⟩
      | 2 => exact ⟨Nat.zero_le _, (i 2).isLt.trans_le (Nat.le_add_left _ _)⟩
  have hd : ∀ t t', t ≠ t' → Disjoint (r t).set (r t').set := fun t t' hne => Finset.disjoint_left.mpr fun i hi hi' =>
    hne (Fin.ext (((hmem t i).mp hi).symm.trans ((hmem t' i).mp hi')))
  have hcov : Finset.univ.biUnion (fun t => (r t).set) = Finset.univ := Finset.eq_univ_iff_forall.mpr fun i =>
    Finset.mem_biUnion.mpr ⟨⟨(i 0).val, (i 0).isLt⟩, Finset.mem_univ _, (hmem _ i).mpr rfl⟩
  have h₁ : (any c m : sProp 𝕄) ⊢ iprop(any c (m.slice (r 0) (fun _ => rfl)) ∗ any c (m.slice (r 1) (fun _ => rfl))) := by
    iintro ⟨%v, H⟩
    ihave H := (owns_rects (c : Thread nD τ) m fullShare r (fun _ _ => rfl) hd hcov v) $$ H
    ihave H := (Entails.of_eq (b2_eq (F := F) _)) $$ H
    icases H with ⟨H0, H1⟩
    isplitl [H0]; · iexists _; iexact H0
    iexists _; iexact H1
  have h₂ : iprop(any c (m.slice (r 0) (fun _ => rfl)) ∗ any c (m.slice (r 1) (fun _ => rfl))) ⊢ (any c m : sProp 𝕄) := by
    iintro ⟨⟨%v, H0⟩, %w, H1⟩
    let u : (⟨3, ![2, n, 1024]⟩ : Shape).Idx → Elt F .f32 := fun i => if (i 0).val = 0 then v (row3 i) else w (row3 i)
    have e0 : (fun j => u ((r 0).emb j)) = v := funext fun j => by
      show (if ((r 0).emb j 0).val = 0 then _ else _) = _
      rw [if_pos (by have h0 : (j 0).val < 1 := (j 0).isLt; rw [Rect.emb_apply]; show 0 + 1 * (j 0).val = 0; omega)]
      exact congrArg v (row3_emb (inb 0) j)
    have e1 : (fun j => u ((r 1).emb j)) = w := funext fun j => by
      show (if ((r 1).emb j 0).val = 0 then _ else _) = _
      rw [if_neg (by rw [Rect.emb_apply]; show ¬ (1 + 1 * (j 0).val = 0); omega)]
      exact congrArg w (row3_emb (inb 1) j)
    iexists u
    iapply (owns_of_rects (c : Thread nD τ) m fullShare r (fun _ _ => rfl) hd hcov u)
    iapply (Entails.of_eq (b2_eq (F := F) (fun t => owns (c : Thread nD τ) (m.slice (r t) (fun _ => rfl)) fullShare fun j => u ((r t).emb j))).symm)
    rw [e0, e1]
    isplitl [H0]; · iexact H0
    iexact H1
  exact BI.equiv_iff.mp ⟨h₁, h₂⟩

theorem any_a (k : Fin 6) : (any c (aM k) : sProp 𝕄) = iprop(any c (aS k 0) ∗ any c (aS k 1)) := by
  unfold aS
  rw [any_squeeze, any_squeeze]
  exact any_halves c (aM k) inbA
theorem any_b (k : Fin 6) : (any c (bM k) : sProp 𝕄) = iprop(any c (bS k 0) ∗ any c (bS k 1)) := by
  unfold bS
  rw [any_squeeze, any_squeeze]
  exact any_halves c (bM k) inbB

end Landing

end Cert.ArProof
-- ==== Proof.Half.lean ====
/-
A device's program put together from its phases: one half of the work, the final waits, the handshake, and the whole.
-/
module

public import proofs.«01_k».proof.Proof.Split

@[expose] public section

set_option backward.proofsInPublic true
set_option maxRecDepth 100000

noncomputable section

namespace Cert.ArProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (X : Dev nD → Vec F S2048x1024 .f32) (K : Dev nD × CI → ℕ) (c : Dev nD) (g : Fin 2)

theorem upG0 {l : List Tr} (hl : Up (22 + 18 * g.val) l) :
    Up (rk (2, g, 0) + 1) ((2, g, 4) :: (2, g, 5) :: (3, g, 0) :: (3, g, 1) :: (3, g, 2) :: (3, g, 3) :: l) := by
  have e : rk (2, g, 0) = 16 + 18 * g.val := rfl
  refine Up.cons ?_ (Up.cons ?_ (Up.cons ?_ (Up.cons ?_ (Up.cons ?_ (Up.cons ?_ (hl.mono ?_)))))) <;> (try simp only [rk]) <;> omega
theorem upG2 {l : List Tr} (hl : Up (22 + 18 * g.val) l) :
    Up (rk (2, g, 2) + 1) ((2, g, 5) :: (3, g, 0) :: (3, g, 1) :: (3, g, 2) :: (3, g, 3) :: l) := by
  have e : rk (2, g, 2) = 16 + 18 * g.val + 2 := rfl
  refine Up.cons ?_ (Up.cons ?_ (Up.cons ?_ (Up.cons ?_ (Up.cons ?_ (hl.mono ?_))))) <;> (try simp only [rk]) <;> omega
theorem upG (k : Fin 6) {l : List Tr} (hl : Up (22 + 18 * g.val) l) :
    Up (rk (2, g, k) + 1) ((3, g, 0) :: (3, g, 1) :: (3, g, 2) :: (3, g, 3) :: l) := by
  have hk := k.isLt
  have e : rk (2, g, k) = 16 + 18 * g.val + k.val := rfl
  refine Up.cons ?_ (Up.cons ?_ (Up.cons ?_ (Up.cons ?_ (hl.mono ?_)))) <;> (try simp only [rk]) <;> omega
theorem upQ {l : List Tr} (hl : Up (22 + 18 * g.val) l) :
    Up (16 + 18 * g.val) ((2, g, 0) :: (2, g, 1) :: (2, g, 2) :: (2, g, 3) :: (2, g, 4) :: (2, g, 5) :: (3, g, 0) :: (3, g, 1) :: (3, g, 2) :: (3, g, 3) :: l) := by
  refine Up.cons ?_ (Up.cons ?_ (Up.cons ?_ (Up.cons ?_ (Up.cons ?_ (Up.cons ?_ (Up.cons ?_ (Up.cons ?_ (Up.cons ?_ (Up.cons ?_ (hl.mono ?_)))))))))) <;>
    (try simp only [rk]) <;> omega
theorem upR {l : List Tr} (hl : Up (22 + 18 * g.val) l) :
    Up (10 + 18 * g.val) ((1, g, 0) :: (1, g, 1) :: (1, g, 3) :: (1, g, 4) :: (1, g, 2) :: (1, g, 5) ::
      (2, g, 0) :: (2, g, 1) :: (2, g, 2) :: (2, g, 3) :: (2, g, 4) :: (2, g, 5) :: (3, g, 0) :: (3, g, 1) :: (3, g, 2) :: (3, g, 3) :: l) := by
  refine Up.cons ?_ (Up.cons ?_ (Up.cons ?_ (Up.cons ?_ (Up.cons ?_ (Up.cons ?_ ((upQ g hl).mono ?_)))))) <;> (try simp only [rk]) <;> omega

/-- What landed in the row's reduction and stays, and the same in the column's. -/
def LA : sProp 𝕄 := iprop(LP X c 0 g 1 ∗ LP X c 0 g 2 ∗ LP X c 0 g 4 ∗ LP X c 0 g 5)
def LB : sProp 𝕄 := iprop(LP X c 1 g 1 ∗ LP X c 1 g 2 ∗ LP X c 1 g 4 ∗ LP X c 1 g 5)

/-- What a half leaves: finished receive semaphores, started transfers, the pieces it only read or that landed and stay. -/
def HalfEnd : sProp 𝕄 :=
  iprop((b6 (ZR c 0 g) ∗ b6 (ZR c 1 g) ∗ b6 (ZR c 2 g))
    ∗ ((SC c 0 g 2 ∗ SC c 0 g 5) ∗ b6 (SC c 1 g) ∗ b6 (SC c 2 g) ∗ (SC c 3 g 0 ∗ SC c 3 g 1 ∗ SC c 3 g 2 ∗ SC c 3 g 3))
    ∗ XL X c g ∗ PL X c g ∗ LA X c g ∗ LB X c g ∗ QL X c g)

/-- What a half needs: what the starts and the waits need, the pieces of the input, and room for the sums. -/
def HalfStart : sProp 𝕄 :=
  iprop((ST c 0 g 2 ∗ ST c 0 g 5) ∗ b6 (ST c 1 g) ∗ b6 (ST c 2 g) ∗ (ST c 3 g 0 ∗ ST c 3 g 1 ∗ ST c 3 g 2 ∗ ST c 3 g 3)
    ∗ b6 (RW c 0 g) ∗ b6 (RW c 1 g) ∗ b6 (RW c 2 g) ∗ XL X c g ∗ (any c (hS g 0) ∗ any c (hS g 1)) ∗ (any c (qS c 2 g 0) ∗ any c (qS c 2 g 1)))

theorem ow_ordH (l : List Tr) : ow (F := F) c (rem c (ordH g ++ l)) ⊢ ow c (rem c ((0, g, 2) :: (0, g, 5) ::
      (1, g, 0) :: (1, g, 1) :: (1, g, 3) :: (1, g, 4) :: (1, g, 2) :: (1, g, 5) ::
      (2, g, 0) :: (2, g, 1) :: (2, g, 2) :: (2, g, 3) :: (2, g, 4) :: (2, g, 5) :: (3, g, 0) :: (3, g, 1) :: (3, g, 2) :: (3, g, 3) :: l)) := .rfl

/-- One half of the work. -/
theorem wp_half (l : List Tr) (hl : Up (22 + 18 * g.val) l) (P : PG F) (Q : PUnit → sProp 𝕄) :
    ctx X K ⊢ iprop(HalfStart X c g -∗ ow c (rem c (ordH g ++ l))
      -∗ ((HalfEnd X c g ∗ ow c (rem c l)) -∗ WP c P Q) -∗ WP c (half c g P) Q) := by
  unfold HalfStart
  iintro #Hc ⟨HTA, HTB, HTG, ⟨HT0, HT1, HT2, HT3⟩, HRA, HRB, HRG, HX, HW, HV⟩ HO Hk
  ihave HO := (ow_ordH c g l) $$ HO
  unfold half
  iapply (wp_rowSum X K c g _ (upR g hl) _ _) $$ Hc HRA HTA HX HW HO
  iintro ⟨HZA, HCA, HX, HLA, HP, HO⟩
  ihave HP := (Entails.of_eq (deal_p X c g)) $$ HP
  icases HP with ⟨HS0, HS1, HS3, HS4, HPL⟩
  iapply (wp_colSum X K c g _ (upQ g hl) _ _) $$ Hc [HS0 HS1 HS3 HS4] HTB HRB HPL HV HO
  · iframe
  iintro ⟨HZB, HCB, HPL, HLB, HQ, HO⟩
  ihave HQ := (deal_q X c g) $$ HQ
  icases HQ with ⟨HS, HQR⟩
  unfold b6
  icases HTG with ⟨HG0, HG1, HG2, HG3, HG4, HG5⟩
  iapply (wp_startG X K c g 2 _ _ _) $$ Hc HS [HG0 HG1 HG2 HG3] HO
  · iframe
  iintro ⟨⟨HC0, HC1, HC2, HC3⟩, HO⟩
  iapply (wp_restG X K c g 2 _ _ _ (pass_q0 X c g) (pass_q2 X c g) (upG0 g hl) (upG2 g hl) (fun k => upG g k hl) _ _) $$ Hc [HRG] [HG4 HG5] HO
  · unfold b6; iexact HRG
  · iframe
  iintro ⟨HZG, ⟨HC4, HC5⟩, HL, HO⟩
  ihave HD := (deal_o X c g) $$ [HQR HL]
  · iframe
  icases HD with ⟨HS, HQL⟩
  iapply (wp_startG X K c g 3 _ _ _) $$ Hc HS [HT0 HT1 HT2 HT3] HO
  · iframe
  iintro ⟨HC, HO⟩
  iapply Hk
  unfold HalfEnd LA LB b6
  isplitr [HO]
  · isplitl [HZA HZB HZG]; · iframe
    isplitl [HCA HCB HC0 HC1 HC2 HC3 HC4 HC5 HC]; · iframe
    iframe
  · iexact HO

/-- The final waits of a half. -/
theorem wp_drain (P : PG F) (Q : PUnit → sProp 𝕄) :
    ctx X K ⊢ iprop((b6 (SC c 0 g) ∗ b6 (SC c 1 g) ∗ b6 (SC c 2 g) ∗ b6 (SC c 3 g)) -∗ ow c 0
      -∗ (((b6 (ZS c 0 g) ∗ b6 (ZS c 1 g) ∗ b6 (ZS c 2 g) ∗ b6 (ZS c 3 g))
        ∗ (b6 (SP X c 0 g) ∗ b6 (SP X c 1 g) ∗ b6 (SP X c 2 g) ∗ b6 (SP X c 3 g)) ∗ ow c 0) -∗ WP c P Q) -∗ WP c (drain c g P) Q) := by
  iintro #Hc ⟨H0, H1, H2, H3⟩ HO Hk
  unfold drain
  iapply (wp_drainP X K c g 0 _ _) $$ Hc H0 HO
  iintro ⟨HZ0, HS0, HO⟩
  iapply (wp_drainP X K c g 1 _ _) $$ Hc H1 HO
  iintro ⟨HZ1, HS1, HO⟩
  iapply (wp_drainP X K c g 2 _ _) $$ Hc H2 HO
  iintro ⟨HZ2, HS2, HO⟩
  iapply (wp_drainP X K c g 3 _ _) $$ Hc H3 HO
  iintro ⟨HZ3, HS3, HO⟩
  iapply Hk
  iframe

end

end Cert.ArProof
-- ==== Proof.Work.lean ====
/-
The whole of a device's work between the handshake and its return.
-/
module

public import proofs.«01_k».proof.Proof.Half

@[expose] public section

set_option backward.proofsInPublic true
set_option maxRecDepth 100000

noncomputable section

namespace Cert.ArProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (X : Dev nD → Vec F S2048x1024 .f32) (K : Dev nD × CI → ℕ) (c : Dev nD) (g : Fin 2)

/-- Something for every transfer of a half. -/
def b24 (Φ : Fin 4 → Fin 6 → sProp 𝕄) : sProp 𝕄 := iprop(b6 (Φ 0) ∗ b6 (Φ 1) ∗ b6 (Φ 2) ∗ b6 (Φ 3))

/-- The input of a half in its pieces. -/
def XS : sProp 𝕄 := iprop(SP X c 0 g 0 ∗ SP X c 0 g 1 ∗ SP X c 0 g 3 ∗ SP X c 0 g 4 ∗ XL X c g)
/-- The partial sums of a half. -/
def HS : sProp 𝕄 := iprop(own c (hS g 0) fullShare ((hS g 0).view.read (Elt F) (PRf X c)) ∗ own c (hS g 1) fullShare ((hS g 1).view.read (Elt F) (PRf X c)))
/-- The result of a half in its pieces. -/
def OS : sProp 𝕄 := b8 fun w h => own c (oS c w g h) fullShare ((oS c w g h).view.read (Elt F) (OUT X))

/-- What the work needs for a half, and what it leaves. -/
def Start : sProp 𝕄 :=
  iprop(XS X c g ∗ b24 (fun ph => ST c ph g) ∗ b24 (fun ph => RW c ph g) ∗ (any c (hS g 0) ∗ any c (hS g 1))
    ∗ (any c (qS c 2 g 0) ∗ any c (qS c 2 g 1)))
def Stop : sProp 𝕄 :=
  iprop(XS X c g ∗ b24 (fun ph => ZS c ph g) ∗ b24 (fun ph => ZR c ph g) ∗ HS X c g ∗ OS X c g
    ∗ b6 (fun k => any c (aS k g)) ∗ b6 (fun k => any c (bS k g)))

theorem own_any {s : Shape} (m : Memref sig .tc .vmem s .f32) (v : Vec F s .f32) : own c m fullShare v ⊢ (any c m : sProp 𝕄) := by
  iintro H; iexists v; iexact H
theorem any6 {s : Shape} (m : Fin 6 → Memref sig .tc .vmem s .f32) (v : Fin 6 → Vec F s .f32) :
    iprop(own c (m 0) fullShare (v 0) ∗ own c (m 1) fullShare (v 1) ∗ own c (m 2) fullShare (v 2) ∗ own c (m 3) fullShare (v 3)
      ∗ own c (m 4) fullShare (v 4) ∗ own c (m 5) fullShare (v 5)) ⊢ (b6 fun k => any c (m k) : sProp 𝕄) := by
  unfold b6
  iintro ⟨H0, H1, H2, H3, H4, H5⟩
  isplitl [H0]; · iapply (own_any c) $$ H0
  isplitl [H1]; · iapply (own_any c) $$ H1
  isplitl [H2]; · iapply (own_any c) $$ H2
  isplitl [H3]; · iapply (own_any c) $$ H3
  isplitl [H4]; · iapply (own_any c) $$ H4
  iapply (own_any c) $$ H5
theorem any_A : iprop(SP X c 0 g 2 ∗ LP X c 0 g 1 ∗ LP X c 0 g 2 ∗ SP X c 0 g 5 ∗ LP X c 0 g 4 ∗ LP X c 0 g 5) ⊢ (b6 fun k => any c (aS k g) : sProp 𝕄) :=
  any6 c (fun k => aS k g) (fun k => match k with
    | 0 => VS X c 0 g 2 | 1 => LV X c 0 g 1 | 2 => LV X c 0 g 2 | 3 => VS X c 0 g 5 | 4 => LV X c 0 g 4 | 5 => LV X c 0 g 5)
theorem any_B : iprop(SP X c 1 g 2 ∗ LP X c 1 g 1 ∗ LP X c 1 g 2 ∗ SP X c 1 g 5 ∗ LP X c 1 g 4 ∗ LP X c 1 g 5) ⊢ (b6 fun k => any c (bS k g) : sProp 𝕄) :=
  any6 c (fun k => bS k g) (fun k => match k with
    | 0 => VS X c 1 g 2 | 1 => LV X c 1 g 1 | 2 => LV X c 1 g 2 | 3 => VS X c 1 g 5 | 4 => LV X c 1 g 4 | 5 => LV X c 1 g 5)

theorem half_p : iprop(SP X c 1 g 0 ∗ SP X c 1 g 1 ∗ SP X c 1 g 3 ∗ SP X c 1 g 4 ∗ PL X c g) ⊢ (HS X c g : sProp 𝕄) := by
  refine .trans (Entails.of_eq (deal_p X c g).symm) ?_
  unfold PH HS
  rw [prv_prf, prv_prf]

/-- The pieces of a half put together again. -/
theorem stop_pieces : iprop((b6 (SP X c 0 g) ∗ b6 (SP X c 1 g) ∗ b6 (SP X c 2 g) ∗ b6 (SP X c 3 g)) ∗ XL X c g ∗ PL X c g ∗ LA X c g ∗ LB X c g ∗ QL X c g
      ∗ (LP X c 3 g 1 ∗ LP X c 3 g 3 ∗ LP X c 3 g 4 ∗ LP X c 3 g 5))
    ⊢ iprop(XS X c g ∗ HS X c g ∗ OS X c g ∗ b6 (fun k => any c (aS k g)) ∗ b6 (fun k => any c (bS k g)) : sProp 𝕄) := by
  iintro ⟨⟨HA, HB, HG, HO⟩, HX, HP, HLA, HLB, HQ, HL⟩
  unfold LA LB
  icases HLA with ⟨HA1, HA2, HA4, HA5⟩
  icases HLB with ⟨HB1, HB2, HB4, HB5⟩
  ihave HOS := (gather_o X c g) $$ [HG HO HQ HL]
  · iframe
  unfold b6
  icases HA with ⟨A0, A1, A2, A3, A4, A5⟩
  icases HB with ⟨B0, B1, B2, B3, B4, B5⟩
  isplitl [A0 A1 A3 A4 HX]; · unfold XS; iframe
  isplitl [B0 B1 B3 B4 HP]; · iapply (half_p X c g); iframe
  isplitl [HOS]; · unfold OS; iexact HOS
  isplitl [A2 A5 HA1 HA2 HA4 HA5]
  · ihave H := (any_A X c g) $$ [A2 A5 HA1 HA2 HA4 HA5]
    · iframe
    unfold b6; iexact H
  · ihave H := (any_B X c g) $$ [B2 B5 HB1 HB2 HB4 HB5]
    · iframe
    unfold b6; iexact H

theorem up_A1 : Up (22 + 18 * (0 : Fin 2).val) (ordH 1 ++ (ordC 0 ++ ordC 1)) := by decide
theorem up_A2 : Up (22 + 18 * (1 : Fin 2).val) (ordC 0 ++ ordC 1) := by decide
theorem up_C0 : Up (rk (3, 0, 0) + 1) ((3, 0, 4) :: (3, 0, 5) :: ordC 1) := by decide
theorem up_C2 : Up (rk (3, 0, 2) + 1) ((3, 0, 5) :: ordC 1) := by decide
theorem up_C : ∀ k : Fin 6, Up (rk (3, 0, k) + 1) (ordC 1) := by decide
theorem up_D0 : Up (rk (3, 1, 0) + 1) [(3, 1, 4), (3, 1, 5)] := by decide
theorem up_D2 : Up (rk (3, 1, 2) + 1) [(3, 1, 5)] := by decide
theorem up_D : ∀ k : Fin 6, Up (rk (3, 1, k) + 1) [] := by decide

/-- The work of a device. -/
def work (c : Dev nD) : PG F := startA c 0 <| startA c 1 <| half c 0 <| half c 1 <| restG c 3 0 <| restG c 3 1 <| drain c 0 <| drain c 1 <| Prog.ret ⟨⟩

/-- What a half holds once its first transfers are started. -/
def Mid : sProp 𝕄 := iprop((SC c 0 g 0 ∗ SC c 0 g 1 ∗ SC c 0 g 3 ∗ SC c 0 g 4) ∗ HalfStart X c g ∗ (ST c 3 g 4 ∗ ST c 3 g 5) ∗ b6 (RW c 3 g))
/-- What it holds once the half is done. -/
def Late : sProp 𝕄 := iprop((SC c 0 g 0 ∗ SC c 0 g 1 ∗ SC c 0 g 3 ∗ SC c 0 g 4) ∗ HalfEnd X c g ∗ (ST c 3 g 4 ∗ ST c 3 g 5) ∗ b6 (RW c 3 g))
/-- What it holds before the final waits. -/
def Kept : sProp 𝕄 := iprop(b24 (fun ph => ZR c ph g) ∗ XL X c g ∗ PL X c g ∗ LA X c g ∗ LB X c g ∗ QL X c g ∗ (LP X c 3 g 1 ∗ LP X c 3 g 3 ∗ LP X c 3 g 4 ∗ LP X c 3 g 5))

theorem wp_first (l : List Tr) (P : PG F) (Q : PUnit → sProp 𝕄) :
    ctx X K ⊢ iprop(Start X c g -∗ ow c (rem c (ordA g ++ l)) -∗ ((Mid X c g ∗ ow c (rem c l)) -∗ WP c P Q) -∗ WP c (startA c g P) Q) := by
  unfold Start XS b24
  iintro #Hc ⟨⟨S0, S1, S3, S4, HX⟩, ⟨T0, T1, T2, T3⟩, ⟨R0, R1, R2, R3⟩, HH, HQ⟩ HO Hk
  unfold b6
  icases T0 with ⟨T00, T01, T02, T03, T04, T05⟩
  icases T3 with ⟨T30, T31, T32, T33, T34, T35⟩
  ihave HO := (show ow (F := F) c (rem c (ordA g ++ l)) ⊢ ow c (rem c ((0, g, 0) :: (0, g, 1) :: (0, g, 3) :: (0, g, 4) :: l)) from .rfl) $$ HO
  iapply (wp_startA X K c g l P Q) $$ Hc [S0 S1 S3 S4] [T00 T01 T03 T04] HO
  · iframe
  · iframe
  iintro ⟨HC, HO⟩
  iapply Hk
  unfold Mid HalfStart b6
  isplitr [HO]
  · isplitl [HC]; · iexact HC
    isplitr [T34 T35 R3]
    · isplitl [T02 T05]; · iframe
      isplitl [T1]; · iexact T1
      isplitl [T2]; · iexact T2
      isplitl [T30 T31 T32 T33]; · iframe
      isplitl [R0]; · iexact R0
      isplitl [R1]; · iexact R1
      isplitl [R2]; · iexact R2
      iframe
    · isplitl [T34 T35]; · iframe
      iexact R3
  · iexact HO

theorem wp_mid (l : List Tr) (hl : Up (22 + 18 * g.val) l) (P : PG F) (Q : PUnit → sProp 𝕄) :
    ctx X K ⊢ iprop(Mid X c g -∗ ow c (rem c (ordH g ++ l)) -∗ ((Late X c g ∗ ow c (rem c l)) -∗ WP c P Q) -∗ WP c (half c g P) Q) := by
  unfold Mid
  iintro #Hc ⟨HC, HH, HT, HR⟩ HO Hk
  iapply (wp_half X K c g l hl P Q) $$ Hc HH HO
  iintro ⟨HE, HO⟩
  iapply Hk
  unfold Late
  iframe

theorem wp_late (l : List Tr) (hA : Up (rk (3, g, 0) + 1) ((3, g, 4) :: (3, g, 5) :: l)) (hB : Up (rk (3, g, 2) + 1) ((3, g, 5) :: l))
    (hC : ∀ k : Fin 6, Up (rk (3, g, k) + 1) l) (P : PG F) (Q : PUnit → sProp 𝕄) :
    ctx X K ⊢ iprop(Late X c g -∗ ow c (rem c (ordC g ++ l))
      -∗ ((Kept X c g ∗ (b6 (SC c 0 g) ∗ b6 (SC c 1 g) ∗ b6 (SC c 2 g) ∗ b6 (SC c 3 g)) ∗ ow c (rem c l)) -∗ WP c P Q) -∗ WP c (restG c 3 g P) Q) := by
  unfold Late HalfEnd
  iintro #Hc ⟨⟨C0, C1, C3, C4⟩, ⟨⟨Z0, Z1, Z2⟩, ⟨⟨C2, C5⟩, HCB, HCG, D0, D1, D2, D3⟩, HX, HP, HLA, HLB, HQ⟩, HT, HR⟩ HO Hk
  ihave HO := (show ow (F := F) c (rem c (ordC g ++ l)) ⊢ ow c (rem c ((3, g, 4) :: (3, g, 5) :: l)) from .rfl) $$ HO
  iapply (wp_restG X K c g 3 l _ _ (pass_o0 X c g) (pass_o2 X c g) hA hB hC P Q) $$ Hc HR HT HO
  iintro ⟨Z3, ⟨D4, D5⟩, ⟨-, -, HL⟩, HO⟩
  iapply Hk
  unfold Kept b24
  isplitl [Z0 Z1 Z2 Z3 HX HP HLA HLB HQ HL]; · iframe
  isplitr [HO]
  · isplitl [C0 C1 C2 C3 C4 C5]; · unfold b6; iframe
    isplitl [HCB]; · iexact HCB
    isplitl [HCG]; · iexact HCG
    unfold b6; iframe
  · iexact HO

theorem wp_last (P : PG F) (Q : PUnit → sProp 𝕄) :
    ctx X K ⊢ iprop((Kept X c g ∗ (b6 (SC c 0 g) ∗ b6 (SC c 1 g) ∗ b6 (SC c 2 g) ∗ b6 (SC c 3 g))) -∗ ow c 0
      -∗ ((Stop X c g ∗ ow c 0) -∗ WP c P Q) -∗ WP c (drain c g P) Q) := by
  unfold Kept
  iintro #Hc ⟨⟨HZ, HX, HP, HLA, HLB, HQ, HL⟩, HC⟩ HO Hk
  iapply (wp_drain X K c g P Q) $$ Hc HC HO
  iintro ⟨HZS, HS, HO⟩
  ihave H := (stop_pieces X c g) $$ [HS HX HP HLA HLB HQ HL]
  · iframe
  icases H with ⟨H1, H2, H3, H4, H5⟩
  iapply Hk
  unfold Stop
  isplitr [HO]
  · isplitl [H1]; · iexact H1
    isplitl [HZS]; · unfold b24; iexact HZS
    iframe
  · iexact HO

/-- The work of a device from its pieces to its pieces. -/
theorem wp_work (Q : PUnit → sProp 𝕄) :
    ctx X K ⊢ iprop((Start X c 0 ∗ Start X c 1) -∗ ow c (rem c ord) -∗ ((Stop X c 0 ∗ Stop X c 1 ∗ ow c 0) -∗ Q ⟨⟩) -∗ WP c (work c) Q) := by
  unfold work ord
  iintro #Hc ⟨H0, H1⟩ HO Hk
  iapply (wp_first X K c 0 _ _ Q) $$ Hc H0 HO
  iintro ⟨H0, HO⟩
  iapply (wp_first X K c 1 _ _ Q) $$ Hc H1 HO
  iintro ⟨H1, HO⟩
  iapply (wp_mid X K c 0 _ up_A1 _ Q) $$ Hc H0 HO
  iintro ⟨H0, HO⟩
  iapply (wp_mid X K c 1 _ up_A2 _ Q) $$ Hc H1 HO
  iintro ⟨H1, HO⟩
  iapply (wp_late X K c 0 _ up_C0 up_C2 up_C _ Q) $$ Hc H0 HO
  iintro ⟨H0, HC0, HO⟩
  ihave HO := (show ow (F := F) c (rem c (ordC 1)) ⊢ ow c (rem c (ordC 1 ++ [])) from .rfl) $$ HO
  iapply (wp_late X K c 1 _ up_D0 up_D2 up_D _ Q) $$ Hc H1 HO
  iintro ⟨H1, HC1, HO⟩
  ihave HO := (show ow (F := F) c (rem c []) ⊢ ow c 0 from .rfl) $$ HO
  iapply (wp_last X K c 0 _ Q) $$ Hc [H0 HC0] HO
  · iframe
  iintro ⟨H0, HO⟩
  iapply (wp_last X K c 1 _ Q) $$ Hc [H1 HC1] HO
  · iframe
  iintro ⟨H1, HO⟩
  rw [WP, wp_ret]
  imodintro
  iapply Hk
  iframe

end

end Cert.ArProof
-- ==== Proof.Shake.lean ====
/-
The handshake of a device with its four neighbours, and the device's program from its whole buffers to its whole buffers.
-/
module

public import proofs.«01_k».proof.Proof.Work

@[expose] public section

set_option backward.proofsInPublic true
set_option maxRecDepth 100000

noncomputable section

namespace Cert.ArProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Regrouping -/

/-- Something for every transfer, by half and phase. -/
def trE : (Fin 2 × Fin 4 × Fin 6) ≃ Tr := ⟨fun x => (x.2.1, x.1, x.2.2), fun i => (i.2.1, i.1, i.2.2), fun _ => rfl, fun _ => rfl⟩

theorem b4_eq (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]
  rfl
theorem b4_opp (Φ : Fin 4 → sProp 𝕄) : bigSep Finset.univ Φ = iprop(Φ (opp 0) ∗ Φ (opp 1) ∗ Φ (opp 2) ∗ Φ (opp 3)) := by
  rw [bigSep_univ_eq_bigSepL [1, 0, 3, 2] (by decide) (by decide)]
  simp only [bigSepL_cons_cons, bigSepL_singleton]
  rfl
theorem tr_eq (Φ : Fin 4 → Fin 2 → Fin 6 → sProp 𝕄) :
    (bigSep Finset.univ fun i : Tr => Φ i.1 i.2.1 i.2.2) = iprop(b24 (fun ph => Φ ph 0) ∗ b24 (fun ph => Φ ph 1)) := by
  have hg (g : Fin 2) : (bigSep Finset.univ fun y : Fin 4 × Fin 6 => Φ y.1 g y.2) = b24 fun ph => Φ ph g := by
    rw [bigSep_univ_prod, b4_eq, b6_eq, b6_eq, b6_eq, b6_eq]; rfl
  rw [bigSep_univ_equiv trE, bigSep_univ_prod, b2_eq]
  exact congrArg₂ (fun P Q => iprop(P ∗ Q)) (hg 0) (hg 1)

theorem dir_image : (Finset.univ.image fun i : Tr => dir i.1 i.2.2) = Finset.univ := by decide +kernel
/-- Something for every transfer, by its direction. -/
theorem by_dir (Φ : Tr → sProp 𝕄) : bigSep Finset.univ Φ
    = bigSep Finset.univ fun δ : Fin 4 => bigSep (Finset.univ.filter fun i : Tr => dir i.1 i.2.2 = δ) Φ := by
  rw [bigSep_fiberwise Finset.univ (fun i : Tr => dir i.1 i.2.2), dir_image]

section
variable (X : Dev nD → Vec F S2048x1024 .f32) (K : Dev nD × CI → ℕ) (c : Dev nD) (g : Fin 2)

/-! ## The handshake -/

/-- What the neighbours hand over is the landing places of every transfer. -/
theorem pays_eq : (bigSep Finset.univ fun δ => barPay (F := F) c δ : sProp 𝕄)
    = bigSep Finset.univ fun i : Tr => any (nb (dir i.1 i.2.2) c) (lnd (nb (dir i.1 i.2.2) c) i.1 i.2.1 i.2.2) := by
  rw [by_dir (fun i : Tr => any (F := F) (nb (dir i.1 i.2.2) c) (lnd (nb (dir i.1 i.2.2) c) i.1 i.2.1 i.2.2))]
  refine bigSep_congr fun δ _ => bigSep_congr fun i hi => ?_
  rw [(Finset.mem_filter.mp hi).2]

/-- A neighbour told that the device is ready, with the places for the transfers that come from there. -/
theorem wp_sig (δ : Fin 4) (O : CellTallies nD τ sig Unit) (P : PG F) (Q : PUnit → sProp 𝕄) :
    ctx X K ⊢ iprop((bigSep (Finset.univ.filter fun i : Tr => dir i.1 i.2.2 = opp δ) fun i => any c (lnd c i.1 i.2.1 i.2.2))
      -∗ dutyTok ER (barCell (nb δ c)) 0 (opp δ) -∗ ow c (O + tallyAt (barCell (nb δ c)) () 1) -∗ (ow c O -∗ WP c P Q)
      -∗ WP c (Prog.op (.semSignal (nb δ c, .tc) barS (1#32 : BitVec 32).toInt) fun _ => P) Q) := by
  unfold ow
  iintro #Hc Hp Ht ⟨%W, HO⟩ Hk
  ihave #HI := (ctx_inv X K (nb δ c, .inl ())) $$ Hc
  ihave #HR := (ctx_reached X K (nb δ c, .inl ())) $$ Hc
  iapply (Rounds.wp_signal 𝒱₀ ER (Rd X) (c : Thread nD τ) none (dst := (nb δ c : Thread nD τ)) (κ := K (nb δ c, .inl ()))
      (d := opp δ) (by rw [duties_bar]; exact Finset.mem_univ _) ((amount_bar X (nb δ c) (opp δ)).trans (by decide)) () O rfl)
    $$ [HO Ht Hp]
  · isplitr; · iexact HI
    isplitl [HO]; · iexact HO
    isplitl [Ht]; · iexact Ht
    isplitl [Hp]
    · rw [payload_bar]; unfold barPay; rw [nb_opp]; iexact Hp
    · iexact HR
  iintro HO
  iapply Hk
  iexists W; iexact HO

/-- The wait for all four neighbours: their places come with it, and the barrier is done with. -/
theorem wp_bar (l : List Tr) (P : PG F) (Q : PUnit → sProp 𝕄) :
    ctx X K ⊢ iprop(atPos ER (barCell c) 0 ∅ 0 -∗ cred (tallyAt (barCell c) () 4) -∗ ow c (rem c l)
      -∗ (((bigSep Finset.univ fun i : Tr => any (nb (dir i.1 i.2.2) c) (lnd (nb (dir i.1 i.2.2) c) i.1 i.2.1 i.2.2))
        ∗ semVal (barCell c) 0 ∗ ow c (rem c l)) -∗ WP c P Q)
      -∗ WP c (Prog.op (.semWait barS (4#32 : BitVec 32).toInt) fun _ => P) Q) := by
  unfold ow
  iintro #Hc Hat Hcr ⟨%W, HO⟩ Hk
  ihave #HI := (ctx_inv X K (c, .inl ())) $$ Hc
  ihave #Hlev := (ctx_lev X K) $$ Hc
  iapply (Rounds.wp_wait_rest_token 𝒱₀ ER (Rd X) (c : Thread nD τ) none (κ := K (c, .inl ()))
      (wpE_semWait_eq 𝒱₀ (c : Thread nD τ) none Set.univ) (Set.mem_univ _) () (O := rem c l) (W := W) (R := 0) (m := 0) (T := ∅)
      (by rw [expect_bar]; decide)) $$ [Hcr HO Hat]
  · isplitr; · iexact HI
    isplitl [Hcr]; · iexact Hcr
    isplitl [HO]; · iexact HO
    isplitr; · iapply (mayWait_rem c (.reg barS) 0 l (lv_bar c).le fun i _ => Nat.zero_le _); iexact Hlev
    iexact Hat
  iintro ⟨HO, Hat, -, Hpay⟩
  ihave Hp := (Entails.of_eq ((rest_bar X c).trans (pays_eq c))) $$ Hpay
  imod (Rounds.cell_close ER (Rd X) (Set.mem_univ (K (c, .inl ()))) (fun h => h) (R := 0 + 1) (duties_later X (barCell c))) $$ [Hat] with HzB
  · isplitr; · iexact HI
    iexact Hat
  iapply Hk
  isplitl [Hp]; · iexact Hp
  isplitl [HzB]; · iexact HzB
  iexists _; iexact HO

/-- The handshake. -/
theorem wp_shake (P : PG F) (Q : PUnit → sProp 𝕄) :
    ctx X K ⊢ iprop((bigSep Finset.univ fun i : Tr => any c (lnd c i.1 i.2.1 i.2.2))
      -∗ (bigSep Finset.univ fun δ : Fin 4 => dutyTok ER (barCell (nb δ c)) 0 (opp δ))
      -∗ atPos ER (barCell c) 0 ∅ 0 -∗ cred (tallyAt (barCell c) () 4) -∗ ow c (O₀ c)
      -∗ (((bigSep Finset.univ fun i : Tr => any (nb (dir i.1 i.2.2) c) (lnd (nb (dir i.1 i.2.2) c) i.1 i.2.1 i.2.2))
        ∗ semVal (barCell c) 0 ∗ ow c (rem c ord)) -∗ WP c P Q) -∗ WP c (handshake c P) Q) := by
  rw [by_dir (fun i : Tr => any (F := F) c (lnd c i.1 i.2.1 i.2.2)), b4_opp, b4_eq]
  iintro #Hc ⟨H1, H0, H3, H2⟩ ⟨T0, T1, T2, T3⟩ Hat Hcr HO Hk
  unfold handshake
  unfold O₀
  iapply (wp_sig X K c 0 _ _ Q) $$ Hc H1 T0 HO
  iintro HO
  unfold O₃
  iapply (wp_sig X K c 1 _ _ Q) $$ Hc H0 T1 HO
  iintro HO
  unfold O₂
  iapply (wp_sig X K c 2 _ _ Q) $$ Hc H3 T2 HO
  iintro HO
  unfold O₁
  iapply (wp_sig X K c 3 _ _ Q) $$ Hc H2 T3 HO
  iintro HO
  iapply (wp_bar X K c ord P Q) $$ Hc Hat Hcr HO
  iexact Hk

/-! ## Whole buffers -/

/-- A whole buffer at some contents. -/
theorem any_whole (b : Ref sig .tc) : (iprop(∃ v, owns (c : Thread nD τ) (Memref.whole b) fullShare v) : sProp 𝕄)
    = iprop(∃ f : Buf (Elt F) ((c : Thread nD τ).loc b), (c : Thread nD τ).loc b ↦{fullShare} f) := by
  simp only [owns_whole]

/-- The pieces of a half of the result at some contents: the landing places of the two gathers, and the two sums to be completed here. -/
theorem room_o (f : S2048x1024.Idx → Elt F .f32) : (b8 fun w h => own c (oS c w g h) fullShare ((oS c w g h).view.read (Elt F) f) : sProp 𝕄)
    ⊢ iprop(b6 (fun k => any c (lnd c 2 g k)) ∗ b6 (fun k => any c (lnd c 3 g k)) ∗ (any c (qS c 2 g 0) ∗ any c (qS c 2 g 1))) := by
  have h2 : iprop(own c (oS c 2 g 0) fullShare ((oS c 2 g 0).view.read (Elt F) f) ∗ own c (oS c 2 g 1) fullShare ((oS c 2 g 1).view.read (Elt F) f))
      ⊢ (iprop(b6 (fun k => any c (lnd c 2 g k)) ∗ (any c (qS c 2 g 0) ∗ any c (qS c 2 g 1))) : sProp 𝕄) := by
    rw [cut_oS]
    unfold b8
    iintro ⟨N0, N1, N2, N3, N4, N5, N6, N7⟩
    ihave H := (any6 c (fun k => lnd c 2 g k) (fun k => (qS c (lw k) g (lh k)).view.read (Elt F) f)) $$ [N0 N1 N2 N3 N4 N5]
    · isplitl [N4]; · iexact N4
      isplitl [N1]; · iexact N1
      isplitl [N5]; · iexact N5
      isplitl [N3]; · iexact N3
      isplitl [N0]; · iexact N0
      iexact N2
    isplitl [H]; · iexact H
    isplitl [N6]; · iapply (own_any c) $$ N6
    iapply (own_any c) $$ N7
  unfold b8
  iintro ⟨N0, N1, N2, N3, N4, N5, N6, N7⟩
  ihave H := (any6 c (fun k => lnd c 3 g k) (fun k => (oS c (lw k) g (lh k)).view.read (Elt F) f)) $$ [N0 N1 N2 N3 N4 N5]
  · isplitl [N4]; · iexact N4
    isplitl [N1]; · iexact N1
    isplitl [N5]; · iexact N5
    isplitl [N3]; · iexact N3
    isplitl [N0]; · iexact N0
    iexact N2
  ihave H' := h2 $$ [N6 N7]
  · isplitl [N6]; · iexact N6
    iexact N7
  icases H' with ⟨H', HQ⟩
  isplitl [H']; · iexact H'
  isplitl [H]; · iexact H
  iexact HQ

/-- The landing buffers of a reduction, by halves. -/
theorem cut_a : (b6 fun k => any c (aM k) : sProp 𝕄) = iprop(b6 (fun k => any c (aS k 0)) ∗ b6 (fun k => any c (aS k 1))) := by
  rw [← b6_eq, ← b6_eq, ← b6_eq, bigSep_congr fun k _ => any_a c k, bigSep_sep']
theorem cut_b : (b6 fun k => any c (bM k) : sProp 𝕄) = iprop(b6 (fun k => any c (bS k 0)) ∗ b6 (fun k => any c (bS k 1))) := by
  rw [← b6_eq, ← b6_eq, ← b6_eq, bigSep_congr fun k _ => any_b c k, bigSep_sep']

/-- The partial sums at some contents, by halves. -/
theorem room_p : (any c pM : sProp 𝕄) ⊢ iprop((any c (hS 0 0) ∗ any c (hS 0 1)) ∗ (any c (hS 1 0) ∗ any c (hS 1 1))) := by
  refine .trans (Entails.of_eq (any_whole c cc0_scratch6)) ?_
  iintro ⟨%f, H⟩
  ihave H := (Entails.of_eq ((cut_pM c fullShare f).trans (b2_eq _))) $$ H
  icases H with ⟨⟨H0, H1⟩, H2, H3⟩
  isplitl [H0 H1]
  · isplitl [H0]; · iapply (own_any c) $$ H0
    iapply (own_any c) $$ H1
  · isplitl [H2]; · iapply (own_any c) $$ H2
    iapply (own_any c) $$ H3

/-- A device's scratch buffers, at some contents. -/
def Scr : sProp 𝕄 := iprop(b6 (fun k => any c (aM k)) ∗ any c pM ∗ b6 (fun k => any c (bM k)))

/-- The room a device has: every landing place, and room for the sums of the two halves. -/
theorem room (f : S2048x1024.Idx → Elt F .f32) :
    iprop(((c : Thread nD τ).loc cc0_stg1_0 ↦{fullShare} f) ∗ Scr c)
      ⊢ (iprop((bigSep Finset.univ fun i : Tr => any c (lnd c i.1 i.2.1 i.2.2))
        ∗ ((any c (hS 0 0) ∗ any c (hS 0 1)) ∗ (any c (hS 1 0) ∗ any c (hS 1 1)))
        ∗ ((any c (qS c 2 0 0) ∗ any c (qS c 2 0 1)) ∗ (any c (qS c 2 1 0) ∗ any c (qS c 2 1 1)))) : sProp 𝕄) := by
  rw [tr_eq (fun ph g k => any (F := F) c (lnd c ph g k))]
  unfold Scr b24
  iintro ⟨HO, HA, HP, HB⟩
  ihave HA := (Entails.of_eq (cut_a c)) $$ HA
  ihave HB := (Entails.of_eq (cut_b c)) $$ HB
  ihave HP := (room_p c) $$ HP
  ihave HO := (Entails.of_eq ((cut_oM c fullShare f).trans (b2_eq _))) $$ HO
  icases HA with ⟨A0, A1⟩
  icases HB with ⟨B0, B1⟩
  icases HO with ⟨O0, O1⟩
  ihave O0 := (room_o c 0 f) $$ O0
  ihave O1 := (room_o c 1 f) $$ O1
  icases O0 with ⟨G0, H0, Q0⟩
  icases O1 with ⟨G1, H1, Q1⟩
  isplitl [A0 A1 B0 B1 G0 H0 G1 H1]
  · isplitl [A0 B0 G0 H0]
    · isplitl [A0]; · iexact A0
      isplitl [B0]; · iexact B0
      isplitl [G0] <;> iassumption
    · isplitl [A1]; · iexact A1
      isplitl [B1]; · iexact B1
      isplitl [G1] <;> iassumption
  isplitl [HP]; · iexact HP
  isplitl [Q0] <;> iassumption

/-- What a device starts with beside its buffers. -/
def Ghost : sProp 𝕄 :=
  iprop((bigSep Finset.univ fun δ : Fin 4 => dutyTok ER (barCell (nb δ c)) 0 (opp δ))
    ∗ (atPos ER (barCell c) 0 ∅ 0 ∗ cred (tallyAt (barCell c) () 4))
    ∗ (bigSep Finset.univ fun i : Tr => dutyTok ER (sCell c i.1 i.2.1 i.2.2) 0 (0 : Fin 4))
    ∗ (bigSep Finset.univ fun i : Tr => dutyTok ER (rCell (nb (dir i.1 i.2.2) c) i.1 i.2.1 i.2.2) 0 (0 : Fin 4))
    ∗ (bigSep Finset.univ fun i : Tr => atPos ER (sCell c i.1 i.2.1 i.2.2) 0 ∅ 0)
    ∗ (bigSep Finset.univ fun i : Tr => atPos ER (rCell c i.1 i.2.1 i.2.2) 0 ∅ 0)
    ∗ (bigSep Finset.univ fun i : Tr => cred (tallyAt (rCell c i.1 i.2.1 i.2.2) () (nn i.1 i.2.2))))

/-- The finished semaphores of a device. -/
def Zeros : sProp 𝕄 := iprop(semVal (barCell c) 0 ∗ (bigSep Finset.univ fun i : Tr => ZS c i.1 i.2.1 i.2.2) ∗ (bigSep Finset.univ fun i : Tr => ZR c i.1 i.2.1 i.2.2))

/-- The pieces of both halves are the whole buffers. -/
theorem stop_whole : iprop(Stop X c 0 ∗ Stop X c 1)
    ⊢ (iprop(((c : Thread nD τ).loc cc0_stg0_0 ↦{fullShare} X c) ∗ ((c : Thread nD τ).loc cc0_stg1_0 ↦{fullShare} OUT X) ∗ Scr c
      ∗ (bigSep Finset.univ fun i : Tr => ZS c i.1 i.2.1 i.2.2) ∗ (bigSep Finset.univ fun i : Tr => ZR c i.1 i.2.1 i.2.2)) : sProp 𝕄) := by
  rw [tr_eq (fun ph g k => ZS (F := F) c ph g k), tr_eq (fun ph g k => ZR (F := F) c ph g k)]
  unfold Stop
  iintro ⟨⟨X0, S0, R0, P0, O0, A0, B0⟩, ⟨X1, S1, R1, P1, O1, A1, B1⟩⟩
  isplitl [X0 X1]
  · iapply (Entails.of_eq ((deal_x X c).trans (b2_eq _)).symm)
    isplitl [X0]; · unfold XS; iexact X0
    unfold XS; iexact X1
  isplitl [O0 O1]
  · iapply (Entails.of_eq ((cut_oM c fullShare (OUT X)).trans (b2_eq _)).symm)
    isplitl [O0]; · unfold OS; iexact O0
    unfold OS; iexact O1
  isplitl [A0 A1 B0 B1 P0 P1]
  · unfold Scr
    isplitl [A0 A1]
    · iapply (Entails.of_eq (cut_a c).symm)
      isplitl [A0] <;> iassumption
    isplitl [P0 P1]
    · iapply (Entails.of_eq (any_whole c cc0_scratch6).symm)
      iexists (PRf X c)
      iapply (Entails.of_eq ((cut_pM c fullShare (PRf X c)).trans (b2_eq _)).symm)
      isplitl [P0]; · unfold HS; iexact P0
      unfold HS; iexact P1
    · iapply (Entails.of_eq (cut_b c).symm)
      isplitl [B0] <;> iassumption
  isplitl [S0 S1]
  · isplitl [S0] <;> iassumption
  · isplitl [R0] <;> iassumption

/-- What the starts and the waits need, put together for every transfer. -/
theorem deal_st : (iprop((bigSep Finset.univ fun i : Tr => any (F := F) (nb (dir i.1 i.2.2) c) (lnd (nb (dir i.1 i.2.2) c) i.1 i.2.1 i.2.2))
      ∗ (bigSep Finset.univ fun i : Tr => dutyTok ER (sCell c i.1 i.2.1 i.2.2) 0 (0 : Fin 4))
      ∗ (bigSep Finset.univ fun i : Tr => dutyTok ER (rCell (nb (dir i.1 i.2.2) c) i.1 i.2.1 i.2.2) 0 (0 : Fin 4))
      ∗ (bigSep Finset.univ fun i : Tr => atPos ER (sCell c i.1 i.2.1 i.2.2) 0 ∅ 0)) : sProp 𝕄)
    = iprop(b24 (fun ph => ST c ph 0) ∗ b24 (fun ph => ST c ph 1)) := by
  rw [← tr_eq (fun ph g k => ST (F := F) c ph g k), ← bigSep_sep', ← bigSep_sep', ← bigSep_sep']; rfl
theorem deal_rw : (iprop((bigSep Finset.univ fun i : Tr => atPos ER (rCell c i.1 i.2.1 i.2.2) 0 ∅ 0)
      ∗ (bigSep Finset.univ fun i : Tr => cred (tallyAt (rCell c i.1 i.2.1 i.2.2) () (nn i.1 i.2.2)))) : sProp 𝕄)
    = iprop(b24 (fun ph => RW c ph 0) ∗ b24 (fun ph => RW c ph 1)) := by
  rw [← tr_eq (fun ph g k => RW (F := F) c ph g k), ← bigSep_sep']; rfl

/-- A device's program, from its whole buffers to its whole buffers with the sum of all devices' inputs in the result. -/
theorem wp_prog (f : S2048x1024.Idx → Elt F .f32) (Q : PUnit → sProp 𝕄) :
    ctx X K ⊢ iprop(((c : Thread nD τ).loc cc0_stg0_0 ↦{fullShare} X c) -∗ ((c : Thread nD τ).loc cc0_stg1_0 ↦{fullShare} f) -∗ Scr c -∗ Ghost c
      -∗ ow c (O₀ c)
      -∗ ((((c : Thread nD τ).loc cc0_stg0_0 ↦{fullShare} X c) ∗ ((c : Thread nD τ).loc cc0_stg1_0 ↦{fullShare} OUT X) ∗ Scr c ∗ Zeros c ∗ ow c 0) -∗ Q ⟨⟩)
      -∗ WP c (prog c) Q) := by
  unfold Ghost
  iintro #Hc HX HO HS ⟨HTB, ⟨HPB, HCB⟩, HTS, HTR, HPS, HPR, HCR⟩ Hw Hk
  ihave HR := (room c f) $$ [HO HS]
  · isplitl [HO] <;> iassumption
  icases HR with ⟨HL, ⟨HH0, HH1⟩, HQ0, HQ1⟩
  iapply (wp_shake X K c (work c) Q) $$ Hc HL HTB HPB HCB Hw
  iintro ⟨HL, HZ, Hw⟩
  ihave HT := (Entails.of_eq (deal_st c)) $$ [HL HTS HTR HPS]
  · iframe
  ihave HW := (Entails.of_eq (deal_rw c)) $$ [HPR HCR]
  · iframe
  ihave HX := (Entails.of_eq ((deal_x X c).trans (b2_eq _))) $$ HX
  icases HT with ⟨HT0, HT1⟩
  icases HW with ⟨HW0, HW1⟩
  icases HX with ⟨HX0, HX1⟩
  iapply (wp_work X K c Q) $$ Hc [HT0 HT1 HW0 HW1 HX0 HX1 HH0 HH1 HQ0 HQ1] Hw
  · unfold Start XS
    isplitl [HT0 HW0 HX0 HH0 HQ0]; · iframe
    iframe
  iintro ⟨H0, H1, Hw⟩
  ihave H := (stop_whole X c) $$ [H0 H1]
  · isplitl [H0] <;> iassumption
  icases H with ⟨HX, HO, HS, HZS, HZR⟩
  iapply Hk
  unfold Zeros
  iframe

end

end Cert.ArProof
-- ==== Proof.Body.lean ====
/-
The body of the kernel meets what the launch asks of it on every device.
-/
module

public import proofs.«01_k».proof.Proof.Shake

@[expose] public section

set_option backward.proofsInPublic true
set_option maxRecDepth 100000

noncomputable section

namespace Cert.ArProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Thirteen things as six, one and six. -/
theorem assoc13 (P0 P1 P2 P3 P4 P5 P6 P7 P8 P9 P10 P11 P12 : sProp 𝕄) :
    iprop(P0 ∗ P1 ∗ P2 ∗ P3 ∗ P4 ∗ P5 ∗ P6 ∗ P7 ∗ P8 ∗ P9 ∗ P10 ∗ P11 ∗ P12)
      = iprop((P0 ∗ P1 ∗ P2 ∗ P3 ∗ P4 ∗ P5) ∗ P6 ∗ (P7 ∗ P8 ∗ P9 ∗ P10 ∗ P11 ∗ P12)) := by
  have h₁ : iprop(P0 ∗ P1 ∗ P2 ∗ P3 ∗ P4 ∗ P5 ∗ P6 ∗ P7 ∗ P8 ∗ P9 ∗ P10 ∗ P11 ∗ P12)
      ⊢ iprop((P0 ∗ P1 ∗ P2 ∗ P3 ∗ P4 ∗ P5) ∗ P6 ∗ (P7 ∗ P8 ∗ P9 ∗ P10 ∗ P11 ∗ P12)) := by
    iintro ⟨H0, H1, H2, H3, H4, H5, H6, H⟩
    isplitl [H0 H1 H2 H3 H4 H5]
    · iframe
    isplitl [H6] <;> iassumption
  have h₂ : iprop((P0 ∗ P1 ∗ P2 ∗ P3 ∗ P4 ∗ P5) ∗ P6 ∗ (P7 ∗ P8 ∗ P9 ∗ P10 ∗ P11 ∗ P12))
      ⊢ iprop(P0 ∗ P1 ∗ P2 ∗ P3 ∗ P4 ∗ P5 ∗ P6 ∗ P7 ∗ P8 ∗ P9 ∗ P10 ∗ P11 ∗ P12) := by
    iintro ⟨⟨H0, H1, H2, H3, H4, H5⟩, H6, H⟩
    isplitl [H0]; · iexact H0
    isplitl [H1]; · iexact H1
    isplitl [H2]; · iexact H2
    isplitl [H3]; · iexact H3
    isplitl [H4]; · iexact H4
    isplitl [H5]; · iexact H5
    isplitl [H6] <;> iassumption
  exact BI.equiv_iff.mp ⟨h₁, h₂⟩

/-- A device's scratch buffers as the launch hands them over. -/
theorem scr_eq (c : Dev nD) : (Pipeline.scopedRest (Ix := Unit) (Name := ℕ) (U := UU) (Lvl := ℕ) (Val := Elt F) cfg0.spec c : sProp 𝕄) = Scr c := by
  refine (scopedRest0_eq c).trans ?_
  rw [← any_whole c cc0_scratch0, ← any_whole c cc0_scratch1, ← any_whole c cc0_scratch2, ← any_whole c cc0_scratch3, ← any_whole c cc0_scratch4,
    ← any_whole c cc0_scratch5, ← any_whole c cc0_scratch6, ← any_whole c cc0_scratch7, ← any_whole c cc0_scratch8, ← any_whole c cc0_scratch9,
    ← any_whole c cc0_scratch10, ← any_whole c cc0_scratch11, ← any_whole c cc0_scratch12]
  exact assoc13 ..

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- A device's input. -/
def xstg (c : Dev nD) : Vec F S2048x1024 .f32 :=
  (win0_0.blk (0 : Fin 1)).view.read (Elt F) ((s₀ m ρ).mem ((c : Thread nD τ).loc main_arg0))

/-- What every device knows of the cells, under the names their invariants have. -/
def recs (K : Dev nD × CI → ℕ) : sProp 𝕄 :=
  iprop((bigSep Finset.univ fun ck : Dev nD × CI => cellInv ER (Rd (xstg m ρ)) (K ck) (kcell ck))
    ∗ (bigSep Finset.univ fun ck : Dev nD × CI => reached ER (kcell ck) 0))
instance recs_persistent (K : Dev nD × CI → ℕ) : BI.Persistent (recs m ρ K) := by unfold recs; infer_instance

/-- A device's own duties and places. -/
def lin (c : Dev nD) : sProp 𝕄 :=
  iprop(((bigSep Finset.univ fun δ : Fin 4 => dutyTok ER (barCell (nb δ c)) 0 (opp δ))
      ∗ (bigSep Finset.univ fun i : Tr => dutyTok ER (sCell c i.1 i.2.1 i.2.2) 0 (0 : Fin 4))
      ∗ (bigSep Finset.univ fun i : Tr => dutyTok ER (rCell (nb (dir i.1 i.2.2) c) i.1 i.2.1 i.2.2) 0 (0 : Fin 4)))
    ∗ (atPos ER (barCell c) 0 ∅ 0
      ∗ (bigSep Finset.univ fun i : Tr => atPos ER (sCell c i.1 i.2.1 i.2.2) 0 ∅ 0)
      ∗ (bigSep Finset.univ fun i : Tr => atPos ER (rCell c i.1 i.2.1 i.2.2) 0 ∅ 0)))

/-- A device's credits. -/
def crs (c : Dev nD) : sProp 𝕄 :=
  iprop(cred (tallyAt (barCell c) () 4) ∗ (bigSep Finset.univ fun i : Tr => cred (tallyAt (rCell c i.1 i.2.1 i.2.2) () (nn i.1 i.2.2))))

def G' (c : Dev nD) : sProp 𝕄 := iprop(∃ K, recs m ρ K ∗ lin c)
def start (c : Dev nD) : sProp 𝕄 := iprop(G' m ρ c ∗ crs c ∗ levAts L lv)

/-- What the body starts from and what it ends with, beside the staged windows. -/
def Φ₀ (c : Dev nD) : sProp 𝕄 := iprop(start m ρ c ∗ Scr c)
def Φ₁ (c : Dev nD) : sProp 𝕄 := iprop(Scr c ∗ Zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => OUT (xstg m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ c ∗ (dats m ρ 0 c).owesAt () t0_0.succ ∗ stg c cc0_stg0_0 (xstg m ρ c) ∗ stg c cc0_stg1_0 (OUT (xstg m ρ)))

/-- The body on a device. -/
theorem sound (c : Dev nD) : bodyPre m ρ c ⊢ WP c (Prog.op .deviceId fun c => prog c) (fun _ => bodyPost m ρ c) := by
  unfold WP
  rw [wp_deviceId]
  unfold bodyPre Φ₀ start G' recs Dat.owesAt Pipeline.owesWithin
  rw [show (dats m ρ 0 c).owed t0_0.castSucc = O₀ c from rfl]
  iintro ⟨⟨⟨⟨%K, ⟨#H1, #H2⟩, Hl⟩, Hcr, #H3⟩, HS⟩, ⟨%W, %hW, HO⟩, ⟨%d0, %g0, %hg0, Hx⟩, ⟨%d1, %g1, %hg1, Hout⟩⟩
  have hx : g0 = xstg m ρ c := by rw [hg0]; unfold Dat.before; rw [if_pos (show (cfg0.win (0 : Fin 2)).fetch t0_0 = true from rfl)]; rfl
  subst hx
  iapply (wp_prog (xstg m ρ) K c g1 (fun _ => bodyPost m ρ c)) $$ [] Hx Hout HS [Hl Hcr] [HO]
  · unfold ctx
    isplitr; · iexact H1
    isplitr; · iexact H2
    iexact H3
  · unfold lin crs Ghost
    icases Hl with ⟨⟨T1, T2, T3⟩, P1, P2, P3⟩
    icases Hcr with ⟨C1, C2⟩
    iframe
  · unfold ow
    iexists W; iexact HO
  iintro ⟨Hx, Hout, HS, HZ, HO⟩
  unfold bodyPost Φ₁ Dat.owesAt Pipeline.owesWithin
  rw [show (dats m ρ 0 c).owed t0_0.succ = 0 from rfl]
  isplitl [HS HZ]
  · isplitl [HS] <;> iassumption
  isplitl [HO]
  · unfold ow
    icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

/-- What the launch asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  have e := body_eq (F := F) (Memref.isWhole_whole _) (Memref.isWhole_whole _) (Memref.isWhole_whole cc0_scratch0) (Memref.isWhole_whole cc0_scratch1)
    (Memref.isWhole_whole cc0_scratch2) (Memref.isWhole_whole cc0_scratch3) (Memref.isWhole_whole cc0_scratch4) (Memref.isWhole_whole cc0_scratch5)
    (Memref.isWhole_whole _) (Memref.isWhole_whole cc0_scratch7) (Memref.isWhole_whole cc0_scratch8) (Memref.isWhole_whole cc0_scratch9)
    (Memref.isWhole_whole cc0_scratch10) (Memref.isWhole_whole cc0_scratch11) (Memref.isWhole_whole cc0_scratch12)
  exact (sound m ρ c).trans (Entails.of_eq (congrArg (fun P => WP c P fun _ => bodyPost m ρ c) e.symm))

end Cert.ArProof
-- ==== Proof.Launch.lean ====
/-
The launch: the cells of all devices set up together, the credits dealt, and the run of the whole program.
-/
module

public import proofs.«01_k».proof.Proof.Body
public import Idealize.ShloMosaic.Lib.Pipeline.CollectiveSegs

@[expose] public section

set_option backward.proofsInPublic true
set_option maxRecDepth 100000

noncomputable section

namespace Cert.ArProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The semaphores a launch of the kernel has for itself: those of the transfers. -/
abbrev osem (x : Bool × Tr) : SemLoc sig := .dma (sX x)

theorem ownSemFacts : Pipeline.OwnSemFacts cfg0.spec osem := by decide +kernel

theorem share_eq (c : Dev nD) (w : Fin cfg0.W) : (dats m ρ 0 c).share w = fullShare := by unfold Dat.share; split <;> rfl

theorem sX_inj {x y : Bool × Tr} (h : sX x = sX y) : x = y := Option.some.inj ((dec_sX x).symm.trans ((congrArg dec h).trans (dec_sX y)))
theorem csem_injective : Function.Injective csem := by
  rintro (⟨⟩ | x) (⟨⟩ | y) h
  · rfl
  · exact absurd h (fun h => by cases h)
  · exact absurd h (fun h => by cases h)
  · exact congrArg Sum.inr (sX_inj (SemLoc.dma.inj h))
theorem kcell_injective : Function.Injective (kcell : Dev nD × CI → GSem nD τ sig) := fun a b h =>
  Prod.ext (congrArg (fun g : GSem nD τ sig => g.1.1) h) (csem_injective (congrArg Prod.snd h))
def ringCells : Finset (GSem nD τ sig) := Finset.univ.map ⟨kcell, kcell_injective⟩

/-- The duties of a device's own cells: four of the barrier, one of every transfer's semaphore. -/
abbrev tokOf (cj : Dev nD × (Fin 4 ⊕ (Bool × Tr))) : GSem nD τ sig × ℕ × Fin 4 := match cj.2 with
  | .inl δ => (barCell cj.1, 0, δ)
  | .inr x => (xCell cj.1 x, 0, 0)
theorem tokOf_injective : Function.Injective tokOf := by
  rintro ⟨c, δ | x⟩ ⟨c', δ' | y⟩ h
  · obtain rfl : c = c' := congrArg (fun g : GSem nD τ sig × ℕ × Fin 4 => g.1.1.1) h
    obtain rfl : δ = δ' := congrArg (fun g : GSem nD τ sig × ℕ × Fin 4 => g.2.2) h
    rfl
  · exact absurd (congrArg (fun g : GSem nD τ sig × ℕ × Fin 4 => g.1.2) h) (fun h => by cases h)
  · exact absurd (congrArg (fun g : GSem nD τ sig × ℕ × Fin 4 => g.1.2) h) (fun h => by cases h)
  · obtain rfl : c = c' := congrArg (fun g : GSem nD τ sig × ℕ × Fin 4 => g.1.1.1) h
    obtain rfl : x = y := sX_inj (SemLoc.dma.inj (congrArg (fun g : GSem nD τ sig × ℕ × Fin 4 => g.1.2) h))
    rfl
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The duty tokens of a device's own cells. -/
def toks (c : Dev nD) : sProp 𝕄 :=
  iprop((bigSep Finset.univ fun δ : Fin 4 => dutyTok ER (barCell c) 0 δ) ∗ (bigSep Finset.univ fun x : Bool × Tr => dutyTok ER (xCell c x) 0 (0 : Fin 4)))

def G (c : Dev nD) : sProp 𝕄 :=
  iprop((bigSep Finset.univ fun k : CI => roundState ER (Rd (xstg m ρ)) (kcell (c, k)) 0)
    ∗ (bigSep Finset.univ fun k : CI => iprop(atPos ER (kcell (c, k)) 0 ∅ 0 ∗ reached ER (kcell (c, k)) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd (xstg m ρ)) ringCells ringToks) $$ HX with ⟨Hst, Hr, Hat, Htok⟩
  imodintro
  ihave Hst' := (Entails.of_eq (hX fun g => roundState ER (Rd (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier is the launch's one semaphore that the kernel does not have for itself. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

abbrev ownZ (c : Dev nD) : sProp 𝕄 := Pipeline.ownSems0 (Ix := Unit) (Name := ℕ) (U := UU) (Lvl := ℕ) (Val := Elt F) (τ := τ) osem c

/-- Something for every semaphore of a transfer, by side. -/
theorem sides (Φ : Bool × Tr → sProp 𝕄) : bigSep Finset.univ Φ
    = iprop((bigSep Finset.univ fun i : Tr => Φ (false, i)) ∗ (bigSep Finset.univ fun i : Tr => Φ (true, i))) := by
  rw [bigSep_univ_prod, bigSep_univ_eq_bigSepL [false, true] (by decide) (by decide)]
  simp only [bigSepL_cons_cons, bigSepL_singleton]
  rfl
/-- Something for every cell of a device. -/
theorem cells_eq (Φ : CI → sProp 𝕄) : bigSep Finset.univ Φ = iprop(Φ (.inl ()) ∗ (bigSep Finset.univ fun x : Bool × Tr => Φ (.inr x))) := by
  rw [bigSep_univ_sum, bigSep_univ_eq_bigSepL [()] (by decide) (by decide)]
  simp only [bigSepL_singleton]
  rfl

theorem sems0_eq (c : Dev nD) : iprop(ownZ c ∗ unscopedSems0 c) ⊢ (bigSep Finset.univ fun k : CI => semVal (kcell (c, k)) 0 : sProp 𝕄) := by
  rw [unscopedSems0_eq, cells_eq]
  unfold ownZ Pipeline.ownSems0
  iintro ⟨HS, HB⟩
  isplitl [HB] <;> iassumption

/-- A device's cells made invariants. -/
theorem core_alloc (c : Dev nD) :
    iprop(ownZ c ∗ unscopedSems0 c ∗ G m ρ c)
      ⊢ |={Set.univ}=> iprop((bigSep Finset.univ fun k : CI => iprop(∃ κ : ℕ, cellInv ER (Rd (xstg m ρ)) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd (xstg m ρ)) (kcell (c, k)) 0)
      ⊢ (|={Set.univ}=> bigSep Finset.univ fun k : CI => iprop(∃ κ : ℕ, cellInv ER (Rd (xstg m ρ)) κ (kcell (c, k))) : sProp 𝕄) from by
        rw [← bigSep_sep']
        exact (bigSep_mono fun k _ => (Rounds.body_intro ER (Rd (xstg m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device and a direction, seen from the other end. -/
def turnE : (Dev nD × Fin 4) ≃ (Dev nD × Fin 4) :=
  ⟨fun x => (nb x.2 x.1, opp x.2), fun x => (nb x.2 x.1, opp x.2), fun x => Prod.ext (nb_opp x.2 x.1) (opp_opp x.2), fun x => Prod.ext (nb_opp x.2 x.1) (opp_opp x.2)⟩
/-- A device and a transfer, seen from where it lands. -/
def farE : (Dev nD × Tr) ≃ (Dev nD × Tr) :=
  ⟨fun x => (nb (dir x.2.1 x.2.2.2) x.1, x.2), fun x => (nb (opp (dir x.2.1 x.2.2.2)) x.1, x.2), fun x => Prod.ext (nb_opp _ x.1) rfl, fun x => Prod.ext (nb_opp' _ x.1) rfl⟩

theorem turn_toks : (bigSep Finset.univ fun c : Dev nD => bigSep Finset.univ fun δ : Fin 4 => (dutyTok ER (barCell c) 0 δ : sProp 𝕄))
    = bigSep Finset.univ fun c : Dev nD => bigSep Finset.univ fun δ : Fin 4 => dutyTok ER (barCell (nb δ c)) 0 (opp δ) := by
  rw [← bigSep_univ_prod (fun x : Dev nD × Fin 4 => (dutyTok ER (barCell x.1) 0 x.2 : sProp 𝕄)), bigSep_univ_equiv turnE, bigSep_univ_prod]; rfl
theorem far_toks : (bigSep Finset.univ fun c : Dev nD => bigSep Finset.univ fun i : Tr => (dutyTok ER (rCell c i.1 i.2.1 i.2.2) 0 (0 : Fin 4) : sProp 𝕄))
    = bigSep Finset.univ fun c : Dev nD => bigSep Finset.univ fun i : Tr => dutyTok ER (rCell (nb (dir i.1 i.2.2) c) i.1 i.2.1 i.2.2) 0 (0 : Fin 4) := by
  rw [← bigSep_univ_prod (fun x : Dev nD × Tr => (dutyTok ER (rCell x.1 x.2.1 x.2.2.1 x.2.2.2) 0 (0 : Fin 4) : sProp 𝕄)), bigSep_univ_equiv farE, bigSep_univ_prod]; rfl

/-- The duties a device is to pay. -/
def pays (c : Dev nD) : sProp 𝕄 :=
  iprop((bigSep Finset.univ fun δ : Fin 4 => dutyTok ER (barCell (nb δ c)) 0 (opp δ))
      ∗ (bigSep Finset.univ fun i : Tr => dutyTok ER (sCell c i.1 i.2.1 i.2.2) 0 (0 : Fin 4))
      ∗ (bigSep Finset.univ fun i : Tr => dutyTok ER (rCell (nb (dir i.1 i.2.2) c) i.1 i.2.1 i.2.2) 0 (0 : Fin 4)))

/-- Every duty goes to the device that pays it. -/
theorem toks_around : (bigSep Finset.univ fun c : Dev nD => (toks c : sProp 𝕄)) = bigSep Finset.univ fun c : Dev nD => pays c := by
  unfold toks pays
  rw [bigSep_sep', bigSep_sep', bigSep_sep', turn_toks, ← far_toks, ← bigSep_sep' Finset.univ
    (fun c : Dev nD => (bigSep Finset.univ fun i : Tr => dutyTok ER (sCell c i.1 i.2.1 i.2.2) 0 (0 : Fin 4) : sProp 𝕄))]
  exact congrArg (fun P => iprop(_ ∗ P)) (bigSep_congr fun c _ => sides fun x => (dutyTok ER (xCell c x) 0 (0 : Fin 4) : sProp 𝕄))

/-- A device's places. -/
theorem places (c : Dev nD) : (bigSep Finset.univ fun k : CI => (atPos ER (kcell (c, k)) 0 ∅ 0 : sProp 𝕄))
    = iprop(atPos ER (barCell c) 0 ∅ 0
      ∗ (bigSep Finset.univ fun i : Tr => atPos ER (sCell c i.1 i.2.1 i.2.2) 0 ∅ 0)
      ∗ (bigSep Finset.univ fun i : Tr => atPos ER (rCell c i.1 i.2.1 i.2.2) 0 ∅ 0)) := by
  rw [cells_eq, sides]; rfl

theorem lin_eq : (bigSep Finset.univ fun c : Dev nD => (lin c : sProp 𝕄))
    = iprop((bigSep Finset.univ fun c : Dev nD => pays c) ∗ (bigSep Finset.univ fun c : Dev nD => iprop(atPos ER (barCell c) 0 ∅ 0
      ∗ (bigSep Finset.univ fun i : Tr => atPos ER (sCell c i.1 i.2.1 i.2.2) 0 ∅ 0)
      ∗ (bigSep Finset.univ fun i : Tr => atPos ER (rCell c i.1 i.2.1 i.2.2) 0 ∅ 0)))) := by
  rw [← bigSep_sep']; rfl

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (Rd (xstg m ρ)) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m ρ) := by
  rw [bigSep_sep', bigSep_sep', toks_around, ← bigSep_univ_prod (fun ck : Dev nD × CI => iprop(∃ κ : ℕ, cellInv ER (Rd (xstg m ρ)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), bigSep_congr (s := Finset.univ) fun (c : Dev nD) _ => places c]
  iintro ⟨HI, ⟨Hat, #HR⟩, Htk⟩
  ihave HK := (BI.bigSep_exists_pi Finset.univ (fun (ck : Dev nD × CI) (κ : ℕ) => (cellInv ER (Rd (xstg m ρ)) κ (kcell ck) : sProp 𝕄))) $$ HI
  icases HK with ⟨%K, #HI⟩
  iapply (with_known (R := recs m ρ K) (Φ := fun c => lin c) fun c _ => show iprop(recs m ρ K ∗ lin c) ⊢ G' m ρ c from by
    unfold G'; iintro ⟨H1, H2⟩; iexists K; isplitl [H1] <;> iassumption)
  isplitr
  · unfold recs; isplitl; · iexact HI
    iexact HR
  · iapply (Entails.of_eq (lin_eq (F := F)).symm)
    isplitl [Htk] <;> iassumption

/-- The cells of all devices set up together. -/
theorem glob : (bigSep Finset.univ fun c => iprop(ownZ c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-! ## The launch credit -/

theorem bar_iff {a b : Dev nD} : barCell a = barCell b ↔ a = b :=
  ⟨fun h => congrArg (fun g : GSem nD τ sig => g.1.1) h, fun h => h ▸ rfl⟩
theorem r_iff {a b : Dev nD} {i j : Tr} : rCell a i.1 i.2.1 i.2.2 = rCell b j.1 j.2.1 j.2.2 ↔ a = b ∧ i = j :=
  ⟨fun h => ⟨congrArg (fun g : GSem nD τ sig => g.1.1) h,
    congrArg Prod.snd (sX_inj (x := (true, i)) (y := (true, j)) (SemLoc.dma.inj (congrArg Prod.snd h)))⟩, fun h => by rw [h.1, h.2]⟩
theorem nb_iff (δ : Fin 4) {d c : Dev nD} : nb δ d = c ↔ d = nb (opp δ) c :=
  ⟨fun h => by rw [← h, nb_opp], fun h => by rw [h, nb_opp']⟩

theorem rem_bar (d c : Dev nD) (l : List Tr) : rem d l (barCell c) () = 0 := by
  by_contra h
  obtain ⟨i, -, e⟩ := rem_pos (Nat.pos_of_ne_zero h)
  exact absurd (congrArg Prod.snd e) (fun h => by cases h)
theorem rem_r (d c : Dev nD) (j : Tr) (l : List Tr) :
    rem d l (rCell c j.1 j.2.1 j.2.2) () = l.count j * if d = nb (opp (dir j.1 j.2.2)) c then nn j.1 j.2.2 else 0 := by
  induction l with
  | nil => rw [List.count_nil, Nat.zero_mul]; rfl
  | cons i l ih =>
    rw [rem, Pi.add_apply, Finsupp.add_apply, ih, tallyAt_apply, List.count_cons, Nat.add_mul]
    congr 1
    by_cases e : i = j
    · subst e
      rw [if_pos (beq_self_eq_true i), Nat.one_mul]
      exact if_congr ⟨fun h => (nb_iff _).mp (r_iff.mp h.1).1.symm, fun h => ⟨by rw [(nb_iff _).mpr h], rfl⟩⟩ rfl rfl
    · rw [if_neg fun h => e (r_iff.mp h.1).2.symm, if_neg (by simpa using e), Nat.zero_mul]

theorem bar_at (δ : Fin 4) (d c : Dev nD) : (tallyAt (barCell (nb δ d)) () 1 : CellTallies nD τ sig Unit) (barCell c) () = if d = nb (opp δ) c then 1 else 0 := by
  rw [tallyAt_apply]
  exact if_congr ⟨fun h => (nb_iff δ).mp (bar_iff.mp h.1).symm, fun h => ⟨by rw [(nb_iff δ).mpr h], rfl⟩⟩ rfl rfl
theorem bar_r (δ : Fin 4) (d c : Dev nD) (j : Tr) : (tallyAt (barCell (nb δ d)) () 1 : CellTallies nD τ sig Unit) (rCell c j.1 j.2.1 j.2.2) () = 0 := by
  rw [tallyAt_apply, if_neg fun h => absurd (congrArg Prod.snd h.1) (fun h => by cases h)]

theorem owed_bar (d c : Dev nD) : O₀ d (barCell c) () = (if d = nb (opp 3) c then 1 else 0) + (if d = nb (opp 2) c then 1 else 0)
    + (if d = nb (opp 1) c then 1 else 0) + (if d = nb (opp 0) c then 1 else 0) := by
  unfold O₀ O₃ O₂ O₁
  rw [Pi.add_apply, Finsupp.add_apply, Pi.add_apply, Finsupp.add_apply, Pi.add_apply, Finsupp.add_apply, Pi.add_apply, Finsupp.add_apply,
    rem_bar, bar_at, bar_at, bar_at, bar_at, Nat.zero_add]
theorem ord_count : ∀ j : Tr, ord.count j = 1 := by decide +kernel
theorem owed_r (d c : Dev nD) (j : Tr) : O₀ d (rCell c j.1 j.2.1 j.2.2) () = if d = nb (opp (dir j.1 j.2.2)) c then nn j.1 j.2.2 else 0 := by
  unfold O₀ O₃ O₂ O₁
  rw [Pi.add_apply, Finsupp.add_apply, Pi.add_apply, Finsupp.add_apply, Pi.add_apply, Finsupp.add_apply, Pi.add_apply, Finsupp.add_apply,
    bar_r, bar_r, bar_r, bar_r, rem_r, ord_count, Nat.one_mul]
  rfl

theorem sum_one (a : Dev nD) (n : ℕ) : (∑ d : Dev nD, if d = a then n else 0) = n := by
  rw [Finset.sum_ite_eq' Finset.univ a fun _ => n, if_pos (Finset.mem_univ _)]

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_add_distrib, sum_one, sum_one, sum_one, sum_one]
theorem launch_r (c : Dev nD) (j : Tr) :
    tallyOn (rCell c j.1 j.2.1 j.2.2) (launchCredit (Pipeline.owing O₀) 0 (rCell c j.1 j.2.1 j.2.2))
      = (tallyAt (rCell c j.1 j.2.1 j.2.2) () (nn j.1 j.2.2) : CellTallies nD τ sig Unit) := by
  unfold tallyAt; refine congrArg _ (Finsupp.ext fun u => ?_); cases u
  rw [Pipeline.launchCredit_owing, Finsupp.single_eq_same, Finset.sum_congr rfl fun d _ => owed_r d c j, sum_one]

/-- The semaphores at which a device has a credit at launch. -/
def rsem : Unit ⊕ Tr → SemLoc sig
  | .inl _ => .reg barS
  | .inr i => .dma (sX (true, i))
theorem rsem_injective : Function.Injective rsem := by
  rintro (⟨⟩ | x) (⟨⟩ | y) h
  · rfl
  · exact absurd h (fun h => by cases h)
  · exact absurd h (fun h => by cases h)
  · exact congrArg Sum.inr (congrArg Prod.snd (sX_inj (SemLoc.dma.inj h)))

theorem creds (c : Dev nD) : (Pipeline.launchCred O₀ c : sProp 𝕄) ⊢ crs c := by
  unfold Pipeline.launchCred crs
  refine .trans (bigSep_subset (Finset.subset_univ (Finset.univ.map ⟨rsem, rsem_injective⟩))) ?_
  rw [bigSep_map, bigSep_univ_sum, bigSep_univ_eq_bigSepL [()] (by decide) (by decide)]
  exact Entails.of_eq (congrArg₂ (fun P Q => iprop(P ∗ Q)) (by rw [bigSepL_singleton]; exact congrArg cred (launch_bar c))
    (bigSep_congr fun j _ => congrArg cred (launch_r c j)))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq, unscopedSems0_eq]
  unfold Φ₁ Zeros Pipeline.ownSems0
  rw [sides]
  iintro ⟨Hr, HzB, HzS, HzR⟩
  isplitl [HzB]; · iexact HzB
  isplitl [HzS HzR]
  · isplitl [HzS]
    · iexact HzS
    · iexact HzR
  iexact Hr

theorem lv_stage : ∀ q : DmaSem sig, q.val < 2 → lvS (.dma q) = 0 := by decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 (O₀ c) (by fin_cases w <;> fin_cases s <;> exact Nat.le_of_eq (lv_stage _ (by first | exact Nat.zero_lt_two | exact Nat.one_lt_two))) (fun g u h => O₀_pos h)
    · exact mayWait_of c _ 0 0 (by fin_cases w <;> fin_cases s <;> exact Nat.le_of_eq (lv_stage _ (by first | exact Nat.zero_lt_two | exact Nat.one_lt_two))) (fun g u h => absurd h (Nat.lt_irrefl 0))

/-- What a window's array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On the sixteen devices, from any memory with every semaphore at zero, the program ends, with the arrays as computed and every
semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.ArProof
-- ==== Proof.Sum.lean ====
/-
What the kernel computes over the extended reals: every device ends with the sum of the sixteen inputs.
-/
module

public import proofs.«01_k».proof.Proof.Split
public import Idealize.ShloMosaic.PureOps.Ideal.Laws
public import Idealize.ShloMosaic.Lib.Pipeline.Value

@[expose] public section

set_option backward.proofsInPublic true
set_option maxRecDepth 100000

noncomputable section

namespace Cert.ArProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Sum
variable (X : Dev nD → Vec Ideal S2048x1024 .f32) (c : Dev nD) (g h : Fin 2)

/-- The devices of device `c`'s row, and of its column. -/
def rowOf (c : Dev nD) : List (Dev nD) := List.ofFn fun j : Fin 4 => Fin.ofNat 16 (4 * (c.val / 4) + j.val)
def colOf (c : Dev nD) : List (Dev nD) := List.ofFn fun q : Fin 4 => Fin.ofNat 16 (4 * q.val + c.val % 4)

/-- The input of a device at a row and a column. -/
def xAt (n : ℕ) (j : Fin 1024) (d : Dev nD) : EReal := X d (ix2 (Fin.ofNat 2048 n) j)

/-- The four devices whose rows meet on a device, in the order in which they are added. -/
theorem rowL : ∀ c : Dev nD, [snd 0 0 (snd 0 2 c), snd 0 2 c, snd 0 1 c, c].Perm (rowOf c) := by decide +kernel
theorem rowR : ∀ c : Dev nD, [snd 0 3 (snd 0 5 c), snd 0 5 c, snd 0 4 c, c].Perm (rowOf c) := by decide +kernel
theorem colL : ∀ c : Dev nD, [snd 1 0 (snd 1 2 c), snd 1 2 c, snd 1 1 c, c].Perm (colOf c) := by decide +kernel
theorem colR : ∀ c : Dev nD, [snd 1 3 (snd 1 5 c), snd 1 5 c, snd 1 4 c, c].Perm (colOf c) := by decide +kernel

/-- Four numbers added in any order. -/
theorem four {l : List (Dev nD)} {a b d e : Dev nD} (p : [a, b, d, e].Perm l) (f : Dev nD → EReal) :
    f a + f b + f d + f e = (l.map f).sum := by
  rw [← (p.map f).sum_eq]
  simp only [List.map_cons, List.map_nil, List.sum_cons, List.sum_nil, add_zero, add_assoc]

/-- 128 rows of an input, by row and column, when they are the rows of block `q`. -/
theorem xV_at (w : Fin 5) (r : Fin 128) (j : Fin 1024) (q : ℕ) (hq : (c.val + wn w) % 4 = q) :
    xV X c w g h (ix2 r j) = xAt X (512 * q + 256 * g.val + 128 * h.val + r.val) j c := by
  subst hq
  have hg : g.val < 2 := g.isLt
  have hh : h.val < 2 := h.isLt
  have hr : r.val < 128 := r.isLt
  show X c ((Rect.unit (s := S2048x1024) (off128 c w g h) S128x1024.size (inb128 c w g h)).emb (ix2 r j)) = X c _
  refine congrArg (X c) (funext fun a => Fin.ext ?_)
  rw [Rect.emb_apply]
  have eo := off128_eq c w g h
  match a with
  | 0 =>
    show off128 c w g h 0 + 1 * r.val = _
    rw [eo]
    show 512 * ((c.val + wn w) % 4) + 256 * g.val + 128 * h.val + 1 * r.val = (512 * ((c.val + wn w) % 4) + 256 * g.val + 128 * h.val + r.val) % 2048
    omega
  | 1 =>
    show off128 c w g h 1 + 1 * j.val = j.val
    rw [eo]
    show 0 + 1 * j.val = j.val
    omega

/-- Where the pieces that meet on a device lie. -/
theorem rowW : ∀ c : Dev nD, ((snd 0 0 (snd 0 2 c)).val + 2) % 4 = c.val % 4 ∧ ((snd 0 2 c).val + 3) % 4 = c.val % 4
    ∧ ((snd 0 1 c).val + 1) % 4 = c.val % 4 ∧ ((snd 0 3 (snd 0 5 c)).val + 2) % 4 = c.val % 4 ∧ ((snd 0 5 c).val + 1) % 4 = c.val % 4
    ∧ ((snd 0 4 c).val + 3) % 4 = c.val % 4 := by decide +kernel
theorem colW : ∀ c : Dev nD, ((snd 1 0 (snd 1 2 c)).val / 4 + 2) % 4 = c.val / 4 ∧ ((snd 1 2 c).val / 4 + 3) % 4 = c.val / 4
    ∧ ((snd 1 1 c).val / 4 + 1) % 4 = c.val / 4 ∧ ((snd 1 3 (snd 1 5 c)).val / 4 + 2) % 4 = c.val / 4 ∧ ((snd 1 5 c).val / 4 + 1) % 4 = c.val / 4
    ∧ ((snd 1 4 c).val / 4 + 3) % 4 = c.val / 4 ∧ (c.val / 4 + 0) % 4 = c.val / 4 := by decide +kernel
theorem colM : ∀ c : Dev nD, (snd 1 0 (snd 1 2 c)).val % 4 = c.val % 4 ∧ (snd 1 2 c).val % 4 = c.val % 4
    ∧ (snd 1 1 c).val % 4 = c.val % 4 ∧ (snd 1 3 (snd 1 5 c)).val % 4 = c.val % 4 ∧ (snd 1 5 c).val % 4 = c.val % 4
    ∧ (snd 1 4 c).val % 4 = c.val % 4 := by decide +kernel

/-- The sum a device completes along its row is the sum of its row's inputs. -/
theorem PRv_at (r : Fin 128) (j : Fin 1024) :
    PRv X c g h (ix2 r j) = ((rowOf c).map (xAt X (512 * (c.val % 4) + 256 * g.val + 128 * h.val + r.val) j)).sum := by
  obtain ⟨w₁, w₂, w₃, w₄, w₅, w₆⟩ := rowW c
  match h with
  | 0 =>
    rw [← four (rowL c)]
    show xV X (snd 0 0 (snd 0 2 c)) 0 g 0 (ix2 r j) + xV X (snd 0 2 c) 1 g 0 (ix2 r j) + xV X (snd 0 1 c) 3 g 0 (ix2 r j) + xV X c 2 g 0 (ix2 r j) = _
    rw [xV_at X _ g 0 0 r j _ w₁, xV_at X _ g 0 1 r j _ w₂, xV_at X _ g 0 3 r j _ w₃, xV_at X _ g 0 2 r j (c.val % 4) rfl]
  | 1 =>
    rw [← four (rowR c)]
    show xV X (snd 0 3 (snd 0 5 c)) 4 g 1 (ix2 r j) + xV X (snd 0 5 c) 3 g 1 (ix2 r j) + xV X (snd 0 4 c) 1 g 1 (ix2 r j) + xV X c 2 g 1 (ix2 r j) = _
    rw [xV_at X _ g 1 4 r j _ w₄, xV_at X _ g 1 3 r j _ w₅, xV_at X _ g 1 1 r j _ w₆, xV_at X _ g 1 2 r j (c.val % 4) rfl]

/-- 32 rows of the partial sums of a device `d` in column `m`, when they are the rows of block `q`. -/
theorem pV_at (d : Dev nD) (w : Fin 5) (r : Fin 32) (j : Fin 1024) (q m : ℕ) (hq : (d.val / 4 + wn w) % 4 = q) (hm : d.val % 4 = m) :
    pV X d w g h (ix2 r j) = ((rowOf d).map (xAt X (512 * m + 256 * g.val + 64 * q + 32 * h.val + r.val) j)).sum := by
  subst hq hm
  have hg : g.val < 2 := g.isLt
  have hh : h.val < 2 := h.isLt
  have hr : r.val < 32 := r.isLt
  have e : pV X d w g h (ix2 r j) = PRf X d ((Rect.unit (s := S2x256x1024) (offP d w g h) S1x32x1024.size (inbP d w g h)).emb
      (Fin.cons ⟨0, Nat.one_pos⟩ (ix2 r j))) := by
    refine (congrFun (Memref.read_squeeze_slice pM (Rect.unit (s := S2x256x1024) (offP d w g h) S1x32x1024.size (inbP d w g h)) (fun _ => rfl)
      squeezes_S1x32x1024_S32x1024 shapeCasts_S1x32x1024_S32x1024 (PRf X d)) _).trans ?_
    exact shapeCast_dropUnit_apply ![32, 1024] _ shapeCasts_S1x32x1024_S32x1024 (ix2 r j)
  have e₀ : (((Rect.unit (s := S2x256x1024) (offP d w g h) S1x32x1024.size (inbP d w g h)).emb
      (Fin.cons ⟨0, Nat.one_pos⟩ (ix2 r j))) 0).val = g.val := by
    rw [Rect.emb_apply]; show offP d w g h 0 + 1 * 0 = g.val; rw [offP_eq]; rfl
  have e₁ : (((Rect.unit (s := S2x256x1024) (offP d w g h) S1x32x1024.size (inbP d w g h)).emb
      (Fin.cons ⟨0, Nat.one_pos⟩ (ix2 r j))) 1).val = 64 * ((d.val / 4 + wn w) % 4) + 32 * h.val + r.val := by
    rw [Rect.emb_apply]; show offP d w g h 1 + 1 * r.val = _; rw [offP_eq, Nat.one_mul]; rfl
  have e₂ : ((Rect.unit (s := S2x256x1024) (offP d w g h) S1x32x1024.size (inbP d w g h)).emb
      (Fin.cons ⟨0, Nat.one_pos⟩ (ix2 r j))) 2 = j := Fin.ext (by
    rw [Rect.emb_apply]; show offP d w g h 2 + 1 * j.val = _; rw [offP_eq, Nat.one_mul]; exact Nat.zero_add _)
  have hq : (d.val / 4 + wn w) % 4 < 4 := Nat.mod_lt _ (by decide)
  have ht : 64 * ((d.val / 4 + wn w) % 4) + 32 * h.val + r.val < 256 := by omega
  rw [e, PRf_apply X d g ⟨(64 * ((d.val / 4 + wn w) % 4) + 32 * h.val + r.val) / 128, by omega⟩
    ⟨(64 * ((d.val / 4 + wn w) % 4) + 32 * h.val + r.val) % 128, Nat.mod_lt _ (by decide)⟩ _ e₀ (by rw [e₁]; exact (Nat.div_add_mod _ _).symm), e₂, PRv_at]
  rw [show 512 * (d.val % 4) + 256 * g.val + 128 * ((64 * ((d.val / 4 + wn w) % 4) + 32 * h.val + r.val) / 128)
    + (64 * ((d.val / 4 + wn w) % 4) + 32 * h.val + r.val) % 128 = 512 * (d.val % 4) + 256 * g.val + 64 * ((d.val / 4 + wn w) % 4) + 32 * h.val + r.val from by omega]

/-- The full sum a device completes is the sum over its column of the sums over their rows. -/
theorem Qv_at (r : Fin 32) (j : Fin 1024) :
    Qv X c g h (ix2 r j) = ((colOf c).map fun d => ((rowOf d).map
      (xAt X (512 * (c.val % 4) + 256 * g.val + 64 * (c.val / 4) + 32 * h.val + r.val) j)).sum).sum := by
  obtain ⟨w₁, w₂, w₃, w₄, w₅, w₆, w₀⟩ := colW c
  obtain ⟨m₁, m₂, m₃, m₄, m₅, m₆⟩ := colM c
  match h with
  | 0 =>
    rw [← four (colL c)]
    show pV X (snd 1 0 (snd 1 2 c)) 0 g 0 (ix2 r j) + pV X (snd 1 2 c) 1 g 0 (ix2 r j) + pV X (snd 1 1 c) 3 g 0 (ix2 r j) + pV X c 2 g 0 (ix2 r j) = _
    rw [pV_at X g 0 _ 0 r j _ _ w₁ m₁, pV_at X g 0 _ 1 r j _ _ w₂ m₂, pV_at X g 0 _ 3 r j _ _ w₃ m₃, pV_at X g 0 _ 2 r j _ _ w₀ rfl]
  | 1 =>
    rw [← four (colR c)]
    show pV X (snd 1 3 (snd 1 5 c)) 4 g 1 (ix2 r j) + pV X (snd 1 5 c) 3 g 1 (ix2 r j) + pV X (snd 1 4 c) 1 g 1 (ix2 r j) + pV X c 2 g 1 (ix2 r j) = _
    rw [pV_at X g 1 _ 4 r j _ _ w₄ m₄, pV_at X g 1 _ 3 r j _ _ w₅ m₅, pV_at X g 1 _ 1 r j _ _ w₆ m₆, pV_at X g 1 _ 2 r j _ _ w₀ rfl]

/-- The rows of a column's devices are the sixteen devices. -/
theorem colRows : ∀ c : Dev nD, ((colOf c).map rowOf).flatten.Perm (List.ofFn fun d : Fin 16 => d) := by decide +kernel

theorem sum_rows (f : Dev nD → EReal) : ((colOf c).map fun d => ((rowOf d).map f).sum).sum = ∑ d : Fin 16, f d := by
  rw [← List.sum_ofFn, show List.ofFn f = (List.ofFn fun d : Fin 16 => d).map f from List.map_ofFn.symm, ← ((colRows c).map f).sum_eq,
    List.map_flatten, List.sum_flatten, List.map_map, List.map_map]
  rfl

/-- A device's number from its row and column. -/
theorem digits16 (q m : ℕ) (hq : q < 4) (hm : m < 4) : (4 * q + m) % 16 % 4 = m ∧ (4 * q + m) % 16 / 4 = q := by omega

/-- The array every device ends with is the sum of the sixteen inputs. -/
theorem OUT_sum (i : S2048x1024.Idx) : OUT X i = ∑ d : Fin 16, X d i := by
  have hi : (i 0).val < 2048 := (i 0).isLt
  refine ((Qv_at X _ _ _ ⟨(i 0).val % 32, Nat.mod_lt _ (by decide)⟩ (i 1)).trans (sum_rows _ _)).trans ?_
  refine Finset.sum_congr rfl fun d _ => congrArg (X d) (funext fun a => ?_)
  match a with
  | 0 =>
    refine Fin.ext ?_
    show (512 * ((4 * ((i 0).val % 256 / 64) + (i 0).val / 512) % 16 % 4) + 256 * ((i 0).val % 512 / 256 % 2)
      + 64 * ((4 * ((i 0).val % 256 / 64) + (i 0).val / 512) % 16 / 4) + 32 * ((i 0).val % 64 / 32 % 2) + (i 0).val % 32) % 2048 = (i 0).val
    generalize (i 0).val = n at hi ⊢
    have hb : n % 512 / 256 < 2 := by omega
    have hd : n % 64 / 32 < 2 := by omega
    obtain ⟨e₁, e₂⟩ := digits16 (n % 256 / 64) (n / 512) (by omega) (by omega)
    rw [e₁, e₂, Nat.mod_eq_of_lt hb, Nat.mod_eq_of_lt hd]
    have s₁ : n = 512 * (n / 512) + n % 512 := (Nat.div_add_mod _ _).symm
    have s₂ : n % 512 = 256 * (n % 512 / 256) + n % 256 := by omega
    have s₃ : n % 256 = 64 * (n % 256 / 64) + n % 64 := by omega
    have s₄ : n % 64 = 32 * (n % 64 / 32) + n % 32 := by omega
    rw [Nat.mod_eq_of_lt] <;> omega
  | 1 => rfl

end Sum

end Cert.ArProof
-- ==== Proof.Same.lean ====
/-
The kernel's two printed texts, for the machine's floats and for the extended reals, are one program.
-/
module

public import proofs.«01_k».proof.Proof.Prog
public import proofs.«01_k».proof.Proof.Gen.Kernel
public import proofs.«01_k».proof.Proof.Gen.Kernel.Skeleton

@[expose] public section

set_option backward.proofsInPublic true
set_option maxRecDepth 100000

noncomputable section

namespace Cert.ArProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 0 in
/-- The text for the machine's floats is the program of `body_eq`. -/
theorem body_same (h0 h1 h2 h3 h4 h5 h6 h7 h8 h9 h10 h11 h12 h13 h14) :
    Cert.Kernel.cc0_body (F := F) xM h0 oM h1 (aM 0) h2 (aM 1) h3 (aM 2) h4 (aM 3) h5 (aM 4) h6 (aM 5) h7 pM h8
      (bM 0) h9 (bM 1) h10 (bM 2) h11 (bM 3) h12 (bM 4) h13 (bM 5) h14
      cc0_scratch13 cc0_scratch14 cc0_scratch15 cc0_scratch16 cc0_scratch17 cc0_scratch18 cc0_scratch19 cc0_scratch20
      = Prog.op .deviceId fun c => prog c := by
  rw [Cert.Kernel.Gen.cc0_body_eq_skeleton]
  rfl

/-- The two tables of kernel bodies are one. -/
theorem defs_same : (Cert.Kernel.defs₀ (F := F) : Defs nD τ sig (Elt F) Λ₀) = Cert.KernelIdeal.defs₀ := by
  refine congrArg Defs.onTc (funext fun ℓ => funext fun a => ?_)
  obtain ⟨ℓ, hℓ⟩ := ℓ
  obtain rfl : ℓ = 0 := by have : ℓ < 1 := hℓ; omega
  obtain ⟨t, s⟩ := a
  have hn : ∀ w, (Cert.Kernel.win0 w).nbuf = 1 := by intro w; fin_cases w <;> rfl
  obtain rfl : s = fun w => ⟨0, by rw [hn]; exact Nat.one_pos⟩ := funext fun w => Fin.ext (by have := (s w).isLt; have := hn w; show (s w).val = 0; omega)
  have e := fun h0 h1 h2 h3 h4 h5 h6 h7 h8 h9 h10 h11 h12 h13 h14 =>
    (body_same (F := F) h0 h1 h2 h3 h4 h5 h6 h7 h8 h9 h10 h11 h12 h13 h14).trans (body_eq (F := F) h0 h1 h2 h3 h4 h5 h6 h7 h8 h9 h10 h11 h12 h13 h14).symm
  exact e _ _ _ _ _ _ _ _ _ _ _ _ _ _ _
/-- A run of one text is a run of the other. -/
theorem run_same (s : MemSt nD τ sig (Elt F)) :
    θ_run (Cert.Kernel.defs (F := F)) (onTc (τ := Cert.Kernel.τ) (Cert.Kernel.main (F := F))) s = θ_run defs (onTc (τ := τ) (main (F := F))) s :=
  congrArg (fun d => θ_run d (onTc (τ := τ) (main (F := F))) s) (congrArg (Pipeline.defs (pcfgs (F := F))) (defs_same (F := F)))

end Cert.ArProof
-- ==== Proof.Value.lean ====
/-
The claims: the kernel leaves its argument as it was and every semaphore at zero, and over the extended reals every
device ends with the reference's result.
-/
module

public import proofs.«01_k».proof.Proof.Launch
public import proofs.«01_k».proof.Proof.Sum
public import proofs.«01_k».proof.Proof.Same
public import proofs.«01_k».proof.Proof.Gen.ReferenceIdeal.Run
public import proofs.«01_k».proof.Defs
public import Idealize.ShloMosaic.Lib.Pointwise.Reduce

@[expose] public section

set_option backward.proofsInPublic true
set_option maxRecDepth 100000

noncomputable section

namespace Cert.ArProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The arrays -/

section Arrays
variable (m : (ℓ : Loc nD τ sig) → Buf (Elt F) ℓ) (ρ : Dev nD → PrngReg)

/-- What a device has of the argument is its whole buffer. -/
theorem xstg_eq (c : Dev nD) : xstg m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _

/-- The result array in the end is what the body left in its one block, the whole array. -/
theorem finalA_out (c : Dev nD) : finalA m ρ c (1 : Fin 2) = OUT (xstg m ρ) := by
  have whole := Memref.read_access_unit_zero (Elt F) main_v1 (off := fun a => (win0_1.index (0 : Fin 1)) a * main_v1.ty.shape.size a)
    (funext fun a => by fin_cases a <;> decide) (fun a => by fin_cases a <;> decide) (finalA m ρ c (1 : Fin 2))
  have last := (dats m ρ 0 c).arrAt_succ (1 : Fin 2) (0 : Fin 1)
  rw [if_pos (show (cfg0.win (1 : Fin 2)).flush (0 : Fin 1) = true from rfl)] at last
  exact whole.symm.trans ((congrArg ((win0_1.blk (0 : Fin 1)).view.read (Elt F)) last).trans (View.read_write_univ _ _))

end Arrays

/-! ## The reference -/

/-- Where row `r` of part `d` of the argument stands when the sixteen parts are stacked. -/
theorem stack_at (w : Vec Ideal Cert.ReferenceIdeal.S32768x1024 .f32) (h : Cert.ReferenceIdeal.S32768x1024.ShapeCasts Cert.ReferenceIdeal.S16x2048x1024)
    (d : Fin 16) (i : S2048x1024.Idx) (j : Cert.ReferenceIdeal.S16x2048x1024.Idx) (h₀ : (j 0).val = d.val) (h₁ : (j 1).val = (i 0).val) (h₂ : (j 2).val = (i 1).val) :
    shapeCast Cert.ReferenceIdeal.S16x2048x1024 w h j = Layout.block ⟨2, ![2048, 1024]⟩ ⟨2, ![32768, 1024]⟩ 0 16 d w (by decide) i := by
  rw [Layout.block_apply]
  refine shapeCast_apply w h j _ ?_
  rw [Shape.rowMajor_val_two, Shape.rowMajor_val_three, Layout.Tiles.idx_val, Layout.Tiles.idx_val, h₀, h₁, h₂]
  rfl

/-- The reference's result is the sum of the sixteen parts of its argument. -/
theorem ref_sum (w : Vec Ideal Cert.ReferenceIdeal.S32768x1024 .f32) (h h' hu) (i : S2048x1024.Idx) :
    Host.reduceAdd (F := Ideal) (φ := .f32) (shapeCast Cert.ReferenceIdeal.S16x2048x1024 w h) (constant Cert.ReferenceIdeal.S_ .f32 0x00000000#32)
      (axes := [0]) (t := S2048x1024) h' hu i
      = ∑ d : Fin 16, Layout.block ⟨2, ![2048, 1024]⟩ ⟨2, ![32768, 1024]⟩ 0 16 d w (by decide) i := by
  rw [Host.reduceAdd_apply, Ideal.hostReduceAdd_def]
  refine (Ideal.hostReduceAdd_r3_a0 (n0 := 16) (n1 := 2048) (n2 := 1024) h' _ _ i).trans ?_
  rw [show (constant (F := Ideal) Cert.ReferenceIdeal.S_ .f32 0x00000000#32 (Shape.Idx.first hu)) = (0 : EReal) from Ideal.ofBits_zero_f32, zero_add]
  exact Finset.sum_congr rfl fun d _ => stack_at w h d i _ rfl rfl rfl

/-! ## The claims -/

/-- Over any floats the kernel ends, its argument as it was and every semaphore at zero. -/
theorem frame (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (finalA_x m ρ c), h.2⟩) (run_main m ρ)

/-- The kernel over the machine's floats, whose text is that of the kernel over the extended reals. -/
theorem frame_kernel : Cert.quiescent_Kernel := fun m ρ _ =>
  Eq.mpr (congrArg (· fun r : PUnit × MemSt nD τ sig (Elt Bits) => (∀ c : Dev nD, r.2.mem ((c.tc : Thread nD τ).loc main_arg0) = m ((c.tc : Thread nD τ).loc main_arg0))
    ∧ r.2.sem = fun _ => 0) (run_same (F := Bits) ⟨m, fun _ => 0, ρ⟩)) (frame (F := Bits) m ρ)
/-- The kernel over the extended reals. -/
theorem frame_ideal : Cert.quiescent_KernelIdeal := fun m ρ _ => frame (F := Ideal) m ρ

/-- The reference ends, its argument as it was; it has no semaphore. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals every device ends with the reference's result. -/
theorem value : Cert.algebraic_KernelIdeal_ReferenceIdeal := by
  intro m ρ m' ρ' _ hx
  refine ⟨_, (θ_run Cert.KernelIdeal.defs _ _).mono
      (fun _ h c => ⟨(h.1 c (1 : Fin 2)).trans ?_, (h.1 c (0 : Fin 2)).trans (finalA_x m ρ c)⟩) (run_main (F := Ideal) m ρ),
    (θ_run Cert.ReferenceIdeal.defs _ _).mono (fun _ h => h 0) (Cert.ReferenceIdeal.Value.run (F := Ideal) m' ρ')⟩
  refine (finalA_out m ρ c).trans (funext fun i => ?_)
  refine (OUT_sum _ i).trans (.trans (Finset.sum_congr rfl fun d _ => ?_) (ref_sum _ _ _ _ i).symm)
  rw [xstg_eq, hx d]

end Cert.ArProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.ArProof.frame_kernel, Cert.ArProof.frame_ideal, Cert.ArProof.frame_ref, trivial, Cert.ArProof.value⟩

end Cert.Proof

end
